-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x128x128 : Shape := ⟨4, ![8, 128, 128, 128]⟩
abbrev S8x30x128x128 : Shape := ⟨4, ![8, 30, 128, 128]⟩
abbrev S8x30x256 : Shape := ⟨3, ![8, 30, 256]⟩
abbrev S8x30 : Shape := ⟨2, ![8, 30]⟩
abbrev S1x30x32x128 : Shape := ⟨4, ![1, 30, 32, 128]⟩
abbrev S1x128x32x128 : Shape := ⟨4, ![1, 128, 32, 128]⟩
abbrev S30x32x128 : Shape := ⟨3, ![30, 32, 128]⟩
abbrev S30x4096 : Shape := ⟨2, ![30, 4096]⟩
abbrev S128x32x128 : Shape := ⟨3, ![128, 32, 128]⟩
abbrev S256x32x128 : Shape := ⟨3, ![256, 32, 128]⟩
abbrev S256x4096 : Shape := ⟨2, ![256, 4096]⟩
abbrev S30x256 : Shape := ⟨2, ![30, 256]⟩
abbrev S30 : Shape := ⟨1, ![30]⟩
abbrev S1x30x256 : Shape := ⟨3, ![1, 30, 256]⟩
abbrev S1x30 : Shape := ⟨2, ![1, 30]⟩
abbrev S1x1 : Shape := ⟨2, ![1, 1]⟩
abbrev S8x30x1 : Shape := ⟨3, ![8, 30, 1]⟩
abbrev S30x8x256 : Shape := ⟨3, ![30, 8, 256]⟩
abbrev S240x256 : Shape := ⟨2, ![240, 256]⟩
abbrev S240x128 : Shape := ⟨2, ![240, 128]⟩
abbrev S240x1 : Shape := ⟨2, ![240, 1]⟩
abbrev S240 : Shape := ⟨1, ![240]⟩
abbrev S240x240 : Shape := ⟨2, ![240, 240]⟩
abbrev S1x240x1 : Shape := ⟨3, ![1, 240, 1]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 11
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x30x128x128, .i1⟩
  | .hbm, ⟨3, _⟩ => ⟨S8x30x128x128, .i32⟩
  | .hbm, ⟨4, _⟩ => ⟨S8x30x256, .f32⟩
  | .hbm, ⟨5, _⟩ => ⟨S8x30, .f32⟩
  | .hbm, ⟨6, _⟩ => ⟨S1x1, .f32⟩
  | .hbm, ⟨7, _⟩ => ⟨S_, .f32⟩
  | .local _ .vmem, ⟨0, _⟩ => ⟨S1x30x32x128, .i32⟩
  | .local _ .vmem, ⟨1, _⟩ => ⟨S1x30x32x128, .i32⟩
  | .local _ .vmem, ⟨2, _⟩ => ⟨S1x128x32x128, .f32⟩
  | .local _ .vmem, ⟨3, _⟩ => ⟨S1x128x32x128, .f32⟩
  | .local _ .vmem, ⟨4, _⟩ => ⟨S1x128x32x128, .f32⟩
  | .local _ .vmem, ⟨5, _⟩ => ⟨S1x128x32x128, .f32⟩
  | .local _ .vmem, ⟨6, _⟩ => ⟨S8x30x256, .f32⟩
  | .local _ .vmem, ⟨7, _⟩ => ⟨S8x30, .f32⟩
  | .local _ .vmem, ⟨8, _⟩ => ⟨S8x30x256, .f32⟩
  | .local _ .vmem, ⟨9, _⟩ => ⟨S8x30, .f32⟩
  | .local _ .vmem, ⟨10, _⟩ => ⟨S1x1, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_13 : BitVec 32 := 0#32
  let v16 : BitVec 1 := Scalar.cmpi .ne v15 c0_i32_13
  v16

def k0_off1 (i : grid0.Coords) : Fin 3 → Nat :=
  let arg0 : BitVec 32 := BitVec.ofNat 32 (i 0).val
  let v20 : Index := Scalar.indexCast arg0
  let c0_16 : Index := 0#32
  let c0_17 : Index := 0#32
  ![v20.toNat, 0, 0]
def k0_off2 (i : grid0.Coords) : Fin 2 → Nat :=
  let arg0 : BitVec 32 := BitVec.ofNat 32 (i 0).val
  let v24 : Index := Scalar.indexCast arg0
  let c0_18 : Index := 0#32
  ![v24.toNat, 0]
def k0_cond2 (i : grid0.Coords) : BitVec 1 :=
  let arg1 : BitVec 32 := BitVec.ofNat 32 (i 1).val
  let c0_i32_14 : BitVec 32 := 0#32
  let v17 : BitVec 1 := Scalar.cmpi .ne arg1 c0_i32_14
  let v18 : BitVec 32 := Scalar.extui v17
  let c0_i32_15 : BitVec 32 := 0#32
  let v19 : BitVec 1 := Scalar.cmpi .ne v18 c0_i32_15
  v19

def k0_off3 (i : grid0.Coords) : Fin 3 → Nat :=
  let arg0 : BitVec 32 := BitVec.ofNat 32 (i 0).val
  let v20 : Index := Scalar.indexCast arg0
  let c0_16 : Index := 0#32
  let c0_17 : Index := 0#32
  ![v20.toNat, 0, 0]
def k0_off4 (i : grid0.Coords) : Fin 2 → Nat :=
  let arg0 : BitVec 32 := BitVec.ofNat 32 (i 0).val
  let v28 : Index := Scalar.indexCast arg0
  let c0_20 : Index := 0#32
  ![v28.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x30x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x30x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := .none

abbrev stage1_0 : Fin 1 → Memref sig .tc .vmem S8x30x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S8x128x128x128 : Shape := ⟨4, ![8, 128, 128, 128]⟩
abbrev S8x30x128x128 : Shape := ⟨4, ![8, 30, 128, 128]⟩
abbrev S8x30x16384 : Shape := ⟨3, ![8, 30, 16384]⟩
abbrev S_ : Shape := ⟨0, ![]⟩
abbrev S8x30 : Shape := ⟨2, ![8, 30]⟩
abbrev S30x8 : Shape := ⟨2, ![30, 8]⟩
abbrev S8x128x16384 : Shape := ⟨3, ![8, 128, 16384]⟩
abbrev S8x128x30 : Shape := ⟨3, ![8, 128, 30]⟩
abbrev S30x8x128 : Shape := ⟨3, ![30, 8, 128]⟩
abbrev S30x8x1 : Shape := ⟨3, ![30, 8, 1]⟩
abbrev S240x128 : Shape := ⟨2, ![240, 128]⟩
abbrev S240x1 : Shape := ⟨2, ![240, 1]⟩
abbrev S240 : Shape := ⟨1, ![240]⟩
abbrev S128x240 : Shape := ⟨2, ![128, 240]⟩
abbrev S240x240 : Shape := ⟨2, ![240, 240]⟩
abbrev S240x2 : Shape := ⟨2, ![240, 2]⟩

abbrev nBuf : Space → Nat
  | .hbm => 91
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x30x128x128, .i1⟩
  | .hbm, ⟨3, _⟩ => ⟨S8x30x16384, .i1⟩
  | .hbm, ⟨4, _⟩ => ⟨S8x30x16384, .f32⟩
  | .hbm, ⟨5, _⟩ => ⟨S_, .f32⟩
  | .hbm, ⟨6, _⟩ => ⟨S8x30, .f32⟩
  | .hbm, ⟨7, _⟩ => ⟨S30x8, .f32⟩
  | .hbm, ⟨8, _⟩ => ⟨S8x128x16384, .f32⟩
  | .hbm, ⟨9, _⟩ => ⟨S8x128x16384, .f32⟩
  | .hbm, ⟨10, _⟩ => ⟨S8x128x30, .f32⟩
  | .hbm, ⟨11, _⟩ => ⟨S30x8x128, .f32⟩
  | .hbm, ⟨12, _⟩ => ⟨S_, .f32⟩
  | .hbm, ⟨13, _⟩ => ⟨S30x8, .f32⟩
  | .hbm, ⟨14, _⟩ => ⟨S30x8, .f32⟩
  | .hbm, ⟨15, _⟩ => ⟨S30x8x1, .f32⟩
  | .hbm, ⟨16, _⟩ => ⟨S30x8x128, .f32⟩
  | .hbm, ⟨17, _⟩ => ⟨S30x8x128, .f32⟩
  | .hbm, ⟨18, _⟩ => ⟨S240x128, .f32⟩
  | .hbm, ⟨19, _⟩ => ⟨S8x128x30, .f32⟩
  | .hbm, ⟨20, _⟩ => ⟨S30x8x128, .f32⟩
  | .hbm, ⟨21, _⟩ => ⟨S_, .f32⟩
  | .hbm, ⟨22, _⟩ => ⟨S30x8, .f32⟩
  | .hbm, ⟨23, _⟩ => ⟨S30x8, .f32⟩
  | .hbm, ⟨24, _⟩ => ⟨S30x8x1, .f32⟩
  | .hbm, ⟨25, _⟩ => ⟨S30x8x128, .f32⟩
  | .hbm, ⟨26, _⟩ => ⟨S30x8x128, .f32⟩
  | .hbm, ⟨27, _⟩ => ⟨S240x128, .f32⟩
  | .hbm, ⟨28, _⟩ => ⟨S240x1, .f32⟩
  | .hbm, ⟨29, _⟩ => ⟨S240, .f32⟩
  | .hbm, ⟨30, _⟩ => ⟨S_, .f32⟩
  | .hbm, ⟨31, _⟩ => ⟨S240, .f32⟩
  | .hbm, ⟨32, _⟩ => ⟨S240, .i1⟩
  | .hbm, ⟨33, _⟩ => ⟨S240x128, .f32⟩
  | .hbm, ⟨34, _⟩ => ⟨S_, .f32⟩
  | .hbm, ⟨35, _⟩ => ⟨S240, .f32⟩
  | .hbm, ⟨36, _⟩ => ⟨S240x1, .f32⟩
  | .hbm, ⟨37, _⟩ => ⟨S240x1, .f32⟩
  | .hbm, ⟨38, _⟩ => ⟨S_, .f32⟩
  | .hbm, ⟨39, _⟩ => ⟨S240x1, .f32⟩
  | .hbm, ⟨40, _⟩ => ⟨S240x1, .f32⟩
  | .hbm, ⟨41, _⟩ => ⟨S240x128, .f32⟩
  | .hbm, ⟨42, _⟩ => ⟨S240x128, .f32⟩
  | .hbm, ⟨43, _⟩ => ⟨S240x128, .f32⟩
  | .hbm, ⟨44, _⟩ => ⟨S_, .f32⟩
  | .hbm, ⟨45, _⟩ => ⟨S240, .f32⟩
  | .hbm, ⟨46, _⟩ => ⟨S240x1, .f32⟩
  | .hbm, ⟨47, _⟩ => ⟨S240x1, .f32⟩
  | .hbm, ⟨48, _⟩ => ⟨S_, .f32⟩
  | .hbm, ⟨49, _⟩ => ⟨S240x1, .f32⟩
  | .hbm, ⟨50, _⟩ => ⟨S240x1, .f32⟩
  | .hbm, ⟨51, _⟩ => ⟨S240x128, .f32⟩
  | .hbm, ⟨52, _⟩ => ⟨S240x128, .f32⟩
  | .hbm, ⟨53, _⟩ => ⟨S128x240, .f32⟩
  | .hbm, ⟨54, _⟩ => ⟨S240x240, .f32⟩
  | .hbm, ⟨55, _⟩ => ⟨S_, .f32⟩
  | .hbm, ⟨56, _⟩ => ⟨S240x240, .f32⟩
  | .hbm, ⟨57, _⟩ => ⟨S240x240, .f32⟩
  | .hbm, ⟨58, _⟩ => ⟨S240x240, .f32⟩
  | .hbm, ⟨59, _⟩ => ⟨S_, .f32⟩
  | .hbm, ⟨60, _⟩ => ⟨S240, .f32⟩
  | .hbm, ⟨61, _⟩ => ⟨S240, .f32⟩
  | .hbm, ⟨62, _⟩ => ⟨S240, .i32⟩
  | .hbm, ⟨63, _⟩ => ⟨S_, .i32⟩
  | .hbm, ⟨64, _⟩ => ⟨S240, .i32⟩
  | .hbm, ⟨65, _⟩ => ⟨S240, .i1⟩
  | .hbm, ⟨66, _⟩ => ⟨S_, .i32⟩
  | .hbm, ⟨67, _⟩ => ⟨S240, .i32⟩
  | .hbm, ⟨68, _⟩ => ⟨S240, .i32⟩
  | .hbm, ⟨69, _⟩ => ⟨S240, .i32⟩
  | .hbm, ⟨70, _⟩ => ⟨S_, .i32⟩
  | .hbm, ⟨71, _⟩ => ⟨S240, .i32⟩
  | .hbm, ⟨72, _⟩ => ⟨S240, .i1⟩
  | .hbm, ⟨73, _⟩ => ⟨S_, .i32⟩
  | .hbm, ⟨74, _⟩ => ⟨S240, .i32⟩
  | .hbm, ⟨75, _⟩ => ⟨S240, .i32⟩
  | .hbm, ⟨76, _⟩ => ⟨S240, .i32⟩
  | .hbm, ⟨77, _⟩ => ⟨S240x1, .i32⟩
  | .hbm, ⟨78, _⟩ => ⟨S240x1, .i32⟩
  | .hbm, ⟨79, _⟩ => ⟨S240x2, .i32⟩
  | .hbm, ⟨80, _⟩ => ⟨S240, .f32⟩
  | .hbm, ⟨81, _⟩ => ⟨S240, .f32⟩
  | .hbm, ⟨82, _⟩ => ⟨S240, .f32⟩
  | .hbm, ⟨83, _⟩ => ⟨S240, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Proof.IBody.lean ====
/-
  The two kernel bodies, run once each: what a grid point of the summing region leaves in its two accumulators, and
  what the loss region leaves in its result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.WritesUnit
public import Idealize.ShloMosaic.Lib.ValueIdx
public import Idealize.ShloMosaic.Lib.Pipeline.Value
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix2 ix3)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One image's row of the accumulators -/

/-- The sums' array with image `b`'s row replaced by `p`. -/
def setS (b : ℕ) (p : FVec F S1x30x256 .f32) (Y : FVec F S8x30x256 .f32) : FVec F S8x30x256 .f32 := fun j =>
  if (j 0).val = b then p (ix3 0 (j 1) (j 2)) else Y j
/-- The counts' array with image `b`'s row replaced by `p`. -/
def setC (b : ℕ) (p : FVec F S1x30 .f32) (Y : FVec F S8x30 .f32) : FVec F S8x30 .f32 := fun j =>
  if (j 0).val = b then p (ix2 0 (j 1)) else Y j
/-- Image `b`'s row of the sums. -/
def getS (b : Fin 8) (Y : FVec F S8x30x256 .f32) : FVec F S1x30x256 .f32 := fun j => Y (ix3 b (j 1) (j 2))
/-- Image `b`'s row of the counts. -/
def getC (b : Fin 8) (Y : FVec F S8x30 .f32) : FVec F S1x30 .f32 := fun j => Y (ix2 b (j 1))

/-- A store of a row over the sums leaves the row replaced. -/
theorem read_setS {sp : Space} (v : View sig .tc sp S8x30x256 .f32) (f : v.ty.Contents (Elt F)) (b : Fin 8) {off : Fin 3 → ℕ}
    (inb : ∀ a, off a + S1x30x256.size a ≤ S8x30x256.size a) (p : FVec F S1x30x256 .f32) (h : off = ![b.val, 0, 0]) :
    v.read (Elt F) (v.writes (Elt F) f [⟨Rect.unit (s := S8x30x256) off S1x30x256.size inb, p⟩]) = setS b.val p (v.read (Elt F) f) := by
  funext j
  unfold setS
  split
  · next hj =>
    refine View.read_writes_cons_unit_of_mem v f inb p [] j (ix3 0 (j 1) (j 2)) h fun a => ?_
    match a with
    | 0 => simpa using hj
    | 1 => exact (Nat.zero_add _).symm
    | 2 => exact (Nat.zero_add _).symm
  · next hj =>
    rw [View.read_writes_cons_unit_of_not_mem v f inb p [] j h 0 (by
      show (j 0).val < b.val ∨ b.val + 1 ≤ (j 0).val
      omega)]
    rfl

/-- A store of a row over the counts leaves the row replaced. -/
theorem read_setC {sp : Space} (v : View sig .tc sp S8x30 .f32) (f : v.ty.Contents (Elt F)) (b : Fin 8) {off : Fin 2 → ℕ}
    (inb : ∀ a, off a + S1x30.size a ≤ S8x30.size a) (p : FVec F S1x30 .f32) (h : off = ![b.val, 0]) :
    v.read (Elt F) (v.writes (Elt F) f [⟨Rect.unit (s := S8x30) off S1x30.size inb, p⟩]) = setC b.val p (v.read (Elt F) f) := by
  funext j
  unfold setC
  split
  · next hj =>
    refine View.read_writes_cons_unit_of_mem v f inb p [] j (ix2 0 (j 1)) h fun a => ?_
    match a with
    | 0 => simpa using hj
    | 1 => exact (Nat.zero_add _).symm
  · next hj =>
    rw [View.read_writes_cons_unit_of_not_mem v f inb p [] j h 0 (by
      show (j 0).val < b.val ∨ b.val + 1 ≤ (j 0).val
      omega)]
    rfl

/-- A load of a row of the sums. -/
theorem readAt_getS {sp : Space} (v : View sig .tc sp S8x30x256 .f32) (f : v.ty.Contents (Elt F)) (b : Fin 8) {off : Fin 3 → ℕ}
    (inb : ∀ a, off a + S1x30x256.size a ≤ S8x30x256.size a) (h : off = ![b.val, 0, 0]) :
    v.readAt (Elt F) (Rect.unit (s := S8x30x256) off S1x30x256.size inb).toLoadRect f = getS b (v.read (Elt F) f) := by
  subst h
  funext j
  show v.read (Elt F) f _ = v.read (Elt F) f _
  congr 1
  funext a
  apply Fin.ext
  match a with
  | 0 => show b.val + 1 * (j 0).val = b.val
         have := (j 0).isLt; change (j 0).val < 1 at this; omega
  | 1 => show 0 + 1 * (j 1).val = (j 1).val; omega
  | 2 => show 0 + 1 * (j 2).val = (j 2).val; omega

/-- A load of a row of the counts. -/
theorem readAt_getC {sp : Space} (v : View sig .tc sp S8x30 .f32) (f : v.ty.Contents (Elt F)) (b : Fin 8) {off : Fin 2 → ℕ}
    (inb : ∀ a, off a + S1x30.size a ≤ S8x30.size a) (h : off = ![b.val, 0]) :
    v.readAt (Elt F) (Rect.unit (s := S8x30) off S1x30.size inb).toLoadRect f = getC b (v.read (Elt F) f) := by
  subst h
  funext j
  show v.read (Elt F) f _ = v.read (Elt F) f _
  congr 1
  funext a
  apply Fin.ext
  match a with
  | 0 => show b.val + 1 * (j 0).val = b.val
         have := (j 0).isLt; change (j 0).val < 1 at this; omega
  | 1 => show 0 + 1 * (j 1).val = (j 1).val; omega

/-- A load of a whole rank-4 buffer. -/
theorem readAt_whole4 {sp : Space} {n0 n1 n2 n3 : ℕ} {e : EltTy} (v : View sig .tc sp ⟨4, ![n0, n1, n2, n3]⟩ e) (f : v.ty.Contents (Elt F))
    (inb : ∀ a, (![0, 0, 0, 0] : Fin 4 → ℕ) a + (![n0, n1, n2, n3] : Fin 4 → ℕ) a ≤ (![n0, n1, n2, n3] : Fin 4 → ℕ) a) :
    v.readAt (Elt F) (Rect.unit (s := ⟨4, ![n0, n1, n2, n3]⟩) ![0, 0, 0, 0] ![n0, n1, n2, n3] inb).toLoadRect f = v.read (Elt F) f := by
  rw [View.readAt_eq_ld]
  exact View.ld_unit_zero (funext fun a => by match a with | 0 => rfl | 1 => rfl | 2 => rfl | 3 => rfl) _ _
/-- A load of a whole rank-3 buffer. -/
theorem readAt_whole3 {sp : Space} {n0 n1 n2 : ℕ} {e : EltTy} (v : View sig .tc sp ⟨3, ![n0, n1, n2]⟩ e) (f : v.ty.Contents (Elt F))
    (inb : ∀ a, (![0, 0, 0] : Fin 3 → ℕ) a + (![n0, n1, n2] : Fin 3 → ℕ) a ≤ (![n0, n1, n2] : Fin 3 → ℕ) a) :
    v.readAt (Elt F) (Rect.unit (s := ⟨3, ![n0, n1, n2]⟩) ![0, 0, 0] ![n0, n1, n2] inb).toLoadRect f = v.read (Elt F) f := by
  rw [View.readAt_eq_ld]
  exact View.ld_unit_zero (funext fun a => by match a with | 0 => rfl | 1 => rfl | 2 => rfl) _ _
/-- A load of a whole rank-2 buffer. -/
theorem readAt_whole2 {sp : Space} {n0 n1 : ℕ} {e : EltTy} (v : View sig .tc sp ⟨2, ![n0, n1]⟩ e) (f : v.ty.Contents (Elt F))
    (inb : ∀ a, (![0, 0] : Fin 2 → ℕ) a + (![n0, n1] : Fin 2 → ℕ) a ≤ (![n0, n1] : Fin 2 → ℕ) a) :
    v.readAt (Elt F) (Rect.unit (s := ⟨2, ![n0, n1]⟩) ![0, 0] ![n0, n1] inb).toLoadRect f = v.read (Elt F) f := by
  rw [View.readAt_eq_ld]
  exact View.ld_unit_zero (funext fun a => by match a with | 0 => rfl | 1 => rfl) _ _
/-- A store of a whole rank-2 buffer. -/
theorem read_writes_whole {sp : Space} {n0 n1 : ℕ} {e : EltTy} (v : View sig .tc sp ⟨2, ![n0, n1]⟩ e) (f : v.ty.Contents (Elt F))
    (inb : ∀ a, (![0, 0] : Fin 2 → ℕ) a + (![n0, n1] : Fin 2 → ℕ) a ≤ (![n0, n1] : Fin 2 → ℕ) a) (p : (⟨2, ![n0, n1]⟩ : Shape).Idx → Elt F e) :
    v.read (Elt F) (v.writes (Elt F) f [⟨Rect.unit (s := ⟨2, ![n0, n1]⟩) ![0, 0] ![n0, n1] inb, p⟩]) = p := by
  funext j
  exact View.read_writes_cons_unit_of_mem v f inb p [] j j rfl fun a => by
    match a with
    | 0 => exact (Nat.zero_add _).symm
    | 1 => exact (Nat.zero_add _).symm

/-! ## The summing body -/

/-- What a point of the summing region leaves in the sums: the first block's sums stored, a later block's added. -/
def stepS (i : grid0.Coords) (x0 : Vec F S1x30x32x128 .i32) (x1 x2 : Vec F S1x128x32x128 .f32) (Y : FVec F S8x30x256 .f32) : FVec F S8x30x256 .f32 :=
  setS (i 0).val (if k0_cond1 i = 1#1 then k0_pay4 x0 x1 x2 else k0_pay6 x0 x1 x2 (getS (i 0) Y)) Y
/-- What it leaves in the counts. -/
def stepC (i : grid0.Coords) (x0 : Vec F S1x30x32x128 .i32) (Y : FVec F S8x30 .f32) : FVec F S8x30 .f32 :=
  setC (i 0).val (if k0_cond1 i = 1#1 then k0_pay5 x0 else k0_pay7 x0 (getC (i 0) Y)) Y

/-- The second guard is the first one's negation. -/
theorem cond2_iff : ∀ i : grid0.Coords, k0_cond2 i = 1#1 ↔ ¬ k0_cond1 i = 1#1 := by decide +kernel

/-- The summing body at a point that starts an image. -/
theorem body0_first (c : Dev nD) (i : grid0.Coords) (hc : k0_cond1 i = 1#1)
    (a2 : Memref sig .tc .vmem S1x30x32x128 .i32) (h2 : a2.IsWhole) (a3 : Memref sig .tc .vmem S1x128x32x128 .f32) (h3 : a3.IsWhole)
    (a4 : Memref sig .tc .vmem S1x128x32x128 .f32) (h4 : a4.IsWhole) (a5 : Memref sig .tc .vmem S8x30x256 .f32) (h5 : a5.IsWhole)
    (a6 : Memref sig .tc .vmem S8x30 .f32) (h6 : a6.IsWhole)
    (x0 : Vec F S1x30x32x128 .i32) (x1 x2 : Vec F S1x128x32x128 .f32) (y3 : FVec F S8x30x256 .f32) (y4 : FVec F S8x30 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y3 ∗ owns (c : Thread nD τ) a6 fullShare y4
        ∗ (iprop(owns (c : Thread nD τ) a2 fullShare x0 ∗ owns (c : Thread nD τ) a3 fullShare x1 ∗ owns (c : Thread nD τ) a4 fullShare x2
            ∗ owns (c : Thread nD τ) a5 fullShare (stepS i x0 x1 x2 y3) ∗ owns (c : Thread nD τ) a6 fullShare (stepC i x0 y4)) -∗ K ⟨⟩))
      ⊢ wp frame (wpE (defs₀ (F := F)) Variants.none c none) Set.univ (cc0__stage1_body i a2 h2 a3 h3 a4 h4 a5 h5 a6 h6) K := by
  have hc2 : ¬ k0_cond2 i = 1#1 := fun h => (cond2_iff i).mp h hc
  simp only [cc0__stage1_body_eq_skeleton]; unfold cc0__stage1_body_skel
  unfold owns
  iintro ⟨⟨%f0, %e0, H0⟩, ⟨%f1, %e1, H1⟩, ⟨%f2, %e2, H2⟩, ⟨%f3, %e3, H3⟩, ⟨%f4, %e4, H4⟩, Hk⟩
  sl_exec (disch := first | sl_exact hc | sl_exact hc2)
  sl_step
  iapply Hk
  isplitl [H0]; · iexists f0; isplitr; swap; · iexact H0
                  ipureintro; exact e0
  isplitl [H1]; · iexists f1; isplitr; swap; · iexact H1
                  ipureintro; exact e1
  isplitl [H2]; · iexists f2; isplitr; swap; · iexact H2
                  ipureintro; exact e2
  isplitl [H3]
  · iexists _; isplitr; swap; · iexact H3
    ipureintro
    rw [read_setS _ _ (i 0) _ _ (k0_off1_eq i), readAt_whole4 a2.view f0, readAt_whole4 a3.view f1, readAt_whole4 a4.view f2, e0, e1, e2, e3]
    unfold stepS; rw [if_pos hc]
  iexists _; isplitr; swap; · iexact H4
  ipureintro
  rw [read_setC _ _ (i 0) _ _ (k0_off2_eq i), readAt_whole4 a2.view f0, e0, e4]
  unfold stepC; rw [if_pos hc]

/-- The summing body at a later block of an image. -/
theorem body0_next (c : Dev nD) (i : grid0.Coords) (hc : ¬ k0_cond1 i = 1#1)
    (a2 : Memref sig .tc .vmem S1x30x32x128 .i32) (h2 : a2.IsWhole) (a3 : Memref sig .tc .vmem S1x128x32x128 .f32) (h3 : a3.IsWhole)
    (a4 : Memref sig .tc .vmem S1x128x32x128 .f32) (h4 : a4.IsWhole) (a5 : Memref sig .tc .vmem S8x30x256 .f32) (h5 : a5.IsWhole)
    (a6 : Memref sig .tc .vmem S8x30 .f32) (h6 : a6.IsWhole)
    (x0 : Vec F S1x30x32x128 .i32) (x1 x2 : Vec F S1x128x32x128 .f32) (y3 : FVec F S8x30x256 .f32) (y4 : FVec F S8x30 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y3 ∗ owns (c : Thread nD τ) a6 fullShare y4
        ∗ (iprop(owns (c : Thread nD τ) a2 fullShare x0 ∗ owns (c : Thread nD τ) a3 fullShare x1 ∗ owns (c : Thread nD τ) a4 fullShare x2
            ∗ owns (c : Thread nD τ) a5 fullShare (stepS i x0 x1 x2 y3) ∗ owns (c : Thread nD τ) a6 fullShare (stepC i x0 y4)) -∗ K ⟨⟩))
      ⊢ wp frame (wpE (defs₀ (F := F)) Variants.none c none) Set.univ (cc0__stage1_body i a2 h2 a3 h3 a4 h4 a5 h5 a6 h6) K := by
  have hc2 : k0_cond2 i = 1#1 := (cond2_iff i).mpr hc
  simp only [cc0__stage1_body_eq_skeleton]; unfold cc0__stage1_body_skel
  unfold owns
  iintro ⟨⟨%f0, %e0, H0⟩, ⟨%f1, %e1, H1⟩, ⟨%f2, %e2, H2⟩, ⟨%f3, %e3, H3⟩, ⟨%f4, %e4, H4⟩, Hk⟩
  sl_exec (disch := first | sl_exact hc | sl_exact hc2)
  sl_step
  iapply Hk
  isplitl [H0]; · iexists f0; isplitr; swap; · iexact H0
                  ipureintro; exact e0
  isplitl [H1]; · iexists f1; isplitr; swap; · iexact H1
                  ipureintro; exact e1
  isplitl [H2]; · iexists f2; isplitr; swap; · iexact H2
                  ipureintro; exact e2
  isplitl [H3]
  · iexists _; isplitr; swap; · iexact H3
    ipureintro
    rw [read_setS _ _ (i 0) _ _ (k0_off3_eq i), readAt_whole4 a2.view f0, readAt_whole4 a3.view f1, readAt_whole4 a4.view f2,
      readAt_getS _ _ (i 0) _ (k0_off3_eq i), e0, e1, e2, e3]
    unfold stepS; rw [if_neg hc]
  iexists _; isplitr; swap; · iexact H4
  ipureintro
  rw [read_setC _ _ (i 0) _ _ (k0_off4_eq i), readAt_whole4 a2.view f0, readAt_getC _ _ (i 0) _ (k0_off4_eq i), e0, e4]
  unfold stepC; rw [if_neg hc]

/-- The summing body at any point. -/
theorem body0 (c : Dev nD) (i : grid0.Coords)
    (a2 : Memref sig .tc .vmem S1x30x32x128 .i32) (h2 : a2.IsWhole) (a3 : Memref sig .tc .vmem S1x128x32x128 .f32) (h3 : a3.IsWhole)
    (a4 : Memref sig .tc .vmem S1x128x32x128 .f32) (h4 : a4.IsWhole) (a5 : Memref sig .tc .vmem S8x30x256 .f32) (h5 : a5.IsWhole)
    (a6 : Memref sig .tc .vmem S8x30 .f32) (h6 : a6.IsWhole)
    (x0 : Vec F S1x30x32x128 .i32) (x1 x2 : Vec F S1x128x32x128 .f32) (y3 : FVec F S8x30x256 .f32) (y4 : FVec F S8x30 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare y3 ∗ owns (c : Thread nD τ) a6 fullShare y4
        ∗ (iprop(owns (c : Thread nD τ) a2 fullShare x0 ∗ owns (c : Thread nD τ) a3 fullShare x1 ∗ owns (c : Thread nD τ) a4 fullShare x2
            ∗ owns (c : Thread nD τ) a5 fullShare (stepS i x0 x1 x2 y3) ∗ owns (c : Thread nD τ) a6 fullShare (stepC i x0 y4)) -∗ K ⟨⟩))
      ⊢ wp frame (wpE (defs₀ (F := F)) Variants.none c none) Set.univ (cc0__stage1_body i a2 h2 a3 h3 a4 h4 a5 h5 a6 h6) K := by
  by_cases hc : k0_cond1 i = 1#1
  · exact body0_first c i hc a2 h2 a3 h3 a4 h4 a5 h5 a6 h6 x0 x1 x2 y3 y4 K
  · exact body0_next c i hc a2 h2 a3 h3 a4 h4 a5 h5 a6 h6 x0 x1 x2 y3 y4 K

/-! ## The loss body -/

/-- What the loss region leaves in its result, from the sums and the counts. -/
def lossOf (s : FVec F S8x30x256 .f32) (n : FVec F S8x30 .f32) : FVec F S1x1 .f32 :=
  k1_pay1 (k1_pay4 s n) (k1_pay5 s n) (k1_pay6 s n) (iota .tc S240x240 32 [0] iota_S240x240_d0_w32)

/-- The loss body. -/
theorem body1 (c : Dev nD)
    (a0 : Memref sig .tc .vmem S8x30x256 .f32) (h0 : a0.IsWhole) (a1 : Memref sig .tc .vmem S8x30 .f32) (h1 : a1.IsWhole)
    (a2 : Memref sig .tc .vmem S1x1 .f32) (h2 : a2.IsWhole)
    (x0 : FVec F S8x30x256 .f32) (x1 : FVec F S8x30 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (lossOf x0 x1)) -∗ K ⟨⟩))
      ⊢ wp frame (wpE (defs₀ (F := F)) Variants.none c none) Set.univ (cc1__stage2_body a0 h0 a1 h1 a2 h2) K := by
  simp only [cc1__stage2_body_eq_skeleton]; unfold cc1__stage2_body_skel
  simp only [k1_part1_eq_skeleton]; unfold k1_part1_skel
  unfold owns
  iintro ⟨⟨%f0, %e0, H0⟩, ⟨%f1, %e1, H1⟩, ⟨%d2, %f2, %e2, H2⟩, Hk⟩
  sl_exec
  sl_step
  iapply Hk
  isplitl [H0]; · iexists f0; isplitr; swap; · iexact H0
                  ipureintro; exact e0
  isplitl [H1]; · iexists f1; isplitr; swap; · iexact H1
                  ipureintro; exact e1
  iexists _; isplitr; swap; · iexact H2
  ipureintro
  rw [read_writes_whole, readAt_whole3 a0.view f0, readAt_whole2 a1.view f1, e0, e1]
  rfl

end Cert.KernelIdeal.Run

end
-- ==== Proof.IData.lean ====
/-
  What the two regions' staging buffers and arrays hold: the running sums of the summing region, image by image, and the
  body obligations of both regions.
-/
module

public import proofs.«01_k».proof.Proof.IBody
public import proofs.«01_k».proof.Proof.Gen.KernelIdeal.Regions
public import Idealize.ShloMosaic.Lib.Pipeline.DatRel
public import Idealize.ShloMosaic.Lib.Pipeline.ArrRel

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix2 ix3)
open Idealize.ShloMosaic.Pipeline (Dat RDat)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-! ## The running sums -/

/-- The masks' block at a point, -/
def blkM (c : Dev nD) (t : Fin cfg0.N) : Vec F S1x30x32x128 .i32 := ((cfg0.win 0).blk t).view.read (Elt F) (V1 m c main_v0)
/-- the first features' -/
def blkQ (c : Dev nD) (t : Fin cfg0.N) : Vec F S1x128x32x128 .f32 := ((cfg0.win 1).blk t).view.read (Elt F) (V1 m c main_arg0)
/-- and the second features'. -/
def blkK (c : Dev nD) (t : Fin cfg0.N) : Vec F S1x128x32x128 .f32 := ((cfg0.win 2).blk t).view.read (Elt F) (V1 m c main_arg1)

theorem N32 : cfg0.N = 32 := N_0

/-- The point at which image `b` reaches its chunk `k` (the last from the fourth on). -/
def ptOf (b : Fin 8) (k : ℕ) : Fin cfg0.N := ⟨4 * b.val + min k 3, by rw [N32]; have := b.isLt; omega⟩

/-- Image `b`'s row of sums after its chunks `0 … k`. -/
def accS (c : Dev nD) (b : Fin 8) : ℕ → FVec F S1x30x256 .f32
  | 0 => k0_pay4 (blkM m c (ptOf b 0)) (blkQ m c (ptOf b 0)) (blkK m c (ptOf b 0))
  | k + 1 => k0_pay6 (blkM m c (ptOf b (k + 1))) (blkQ m c (ptOf b (k + 1))) (blkK m c (ptOf b (k + 1))) (accS c b k)
/-- Image `b`'s row of counts after its chunks `0 … k`. -/
def accC (c : Dev nD) (b : Fin 8) : ℕ → FVec F S1x30 .f32
  | 0 => k0_pay5 (blkM m c (ptOf b 0))
  | k + 1 => k0_pay7 (blkM m c (ptOf b (k + 1))) (accC c b k)

/-- All the sums, -/
def totS (c : Dev nD) : FVec F S8x30x256 .f32 := fun j => accS m c (j 0) 3 (ix3 0 (j 1) (j 2))
/-- and all the counts. -/
def totC (c : Dev nD) : FVec F S8x30 .f32 := fun j => accC m c (j 0) 3 (ix2 0 (j 1))

/-- Of the sums' buffer after point `t`: each image reached so far has its row at the sum of its chunks so far. -/
def RlS (c : Dev nD) (t : ℕ) (Y : FVec F S8x30x256 .f32) : Prop := ∀ b : Fin 8, 4 * b.val ≤ t → getS b Y = accS m c b (min (t - 4 * b.val) 3)
/-- Of the counts' buffer, the same. -/
def RlC (c : Dev nD) (t : ℕ) (Y : FVec F S8x30 .f32) : Prop := ∀ b : Fin 8, 4 * b.val ≤ t → getC b Y = accC m c b (min (t - 4 * b.val) 3)

theorem getS_setS_same (b : Fin 8) (p : FVec F S1x30x256 .f32) (Y : FVec F S8x30x256 .f32) : getS b (setS b.val p Y) = p := by
  funext j
  unfold getS setS
  rw [if_pos rfl]
  exact congrArg p (funext fun a => by
    match a with
    | 0 => exact Fin.ext (by have : (j 0).val < 1 := (j 0).isLt; show 0 = (j 0).val; omega)
    | 1 => rfl
    | 2 => rfl)
theorem getS_setS_ne (b : Fin 8) (b' : ℕ) (h : b.val ≠ b') (p : FVec F S1x30x256 .f32) (Y : FVec F S8x30x256 .f32) : getS b (setS b' p Y) = getS b Y := by
  funext j
  unfold getS setS
  rw [if_neg h]
theorem getC_setC_same (b : Fin 8) (p : FVec F S1x30 .f32) (Y : FVec F S8x30 .f32) : getC b (setC b.val p Y) = p := by
  funext j
  unfold getC setC
  rw [if_pos rfl]
  exact congrArg p (funext fun a => by
    match a with
    | 0 => exact Fin.ext (by have : (j 0).val < 1 := (j 0).isLt; show 0 = (j 0).val; omega)
    | 1 => rfl)
theorem getC_setC_ne (b : Fin 8) (b' : ℕ) (h : b.val ≠ b') (p : FVec F S1x30 .f32) (Y : FVec F S8x30 .f32) : getC b (setC b' p Y) = getC b Y := by
  funext j
  unfold getC setC
  rw [if_neg h]

theorem coords_img : ∀ t : Fin cfg0.N, (grid0.coords t 0).val = t.val / 4 := by decide +kernel
theorem cond1_iff : ∀ t : Fin cfg0.N, k0_cond1 (grid0.coords t) = 1#1 ↔ t.val % 4 = 0 := by decide +kernel

theorem ptOf_self (t : Fin cfg0.N) (b : Fin 8) (hb : b.val = t.val / 4) : ptOf b (t.val % 4) = t :=
  Fin.ext (by show 4 * b.val + min (t.val % 4) 3 = t.val; omega)

/-- A point keeps the sums' relation. -/
theorem stepS_rel (c : Dev nD) (t : Fin cfg0.N) (Y : FVec F S8x30x256 .f32) (hY : t.val ≠ 0 → RlS m c (t.val - 1) Y) :
    RlS m c t.val (stepS (grid0.coords t) (blkM m c t) (blkQ m c t) (blkK m c t) Y) := by
  intro b hb
  unfold stepS
  by_cases he : b.val = (grid0.coords t 0).val
  · have hb' : b = grid0.coords t 0 := Fin.ext he
    rw [coords_img] at he
    rw [← hb', getS_setS_same]
    have hp := ptOf_self t b he
    have hk : min (t.val - 4 * b.val) 3 = t.val % 4 := by omega
    rw [hk]
    by_cases h0 : t.val % 4 = 0
    · rw [if_pos ((cond1_iff t).mpr h0), h0, accS, ← h0, hp]
    · rw [if_neg (fun h => h0 ((cond1_iff t).mp h))]
      obtain ⟨k, hk1⟩ : ∃ k, t.val % 4 = k + 1 := ⟨t.val % 4 - 1, by omega⟩
      rw [hY (by omega) b (by omega), show min (t.val - 1 - 4 * b.val) 3 = k by omega, hk1, accS, ← hk1, hp]
  · rw [getS_setS_ne _ _ he]
    rw [coords_img] at he
    rw [hY (by omega) b (by omega)]
    congr 1
    omega

/-- A point keeps the counts' relation. -/
theorem stepC_rel (c : Dev nD) (t : Fin cfg0.N) (Y : FVec F S8x30 .f32) (hY : t.val ≠ 0 → RlC m c (t.val - 1) Y) :
    RlC m c t.val (stepC (grid0.coords t) (blkM m c t) Y) := by
  intro b hb
  unfold stepC
  by_cases he : b.val = (grid0.coords t 0).val
  · have hb' : b = grid0.coords t 0 := Fin.ext he
    rw [coords_img] at he
    rw [← hb', getC_setC_same]
    have hp := ptOf_self t b he
    have hk : min (t.val - 4 * b.val) 3 = t.val % 4 := by omega
    rw [hk]
    by_cases h0 : t.val % 4 = 0
    · rw [if_pos ((cond1_iff t).mpr h0), h0, accC, ← h0, hp]
    · rw [if_neg (fun h => h0 ((cond1_iff t).mp h))]
      obtain ⟨k, hk1⟩ : ∃ k, t.val % 4 = k + 1 := ⟨t.val % 4 - 1, by omega⟩
      rw [hY (by omega) b (by omega), show min (t.val - 1 - 4 * b.val) 3 = k by omega, hk1, accC, ← hk1, hp]
  · rw [getC_setC_ne _ _ he]
    rw [coords_img] at he
    rw [hY (by omega) b (by omega)]
    congr 1
    omega

/-- After the last point the sums' buffer is determined, -/
theorem RlS_last (c : Dev nD) (Y : FVec F S8x30x256 .f32) (h : RlS m c 31 Y) : Y = totS m c := by
  funext j
  have hj : (j 0).val < 8 := (j 0).isLt
  have := h (j 0) (by omega)
  rw [show min (31 - 4 * (j 0).val) 3 = 3 by omega] at this
  have h2 := congrFun this (ix3 0 (j 1) (j 2))
  unfold totS
  rw [← h2]
  exact congrArg Y (funext fun a => by match a with | 0 => rfl | 1 => rfl | 2 => rfl)
/-- and the counts'. -/
theorem RlC_last (c : Dev nD) (Y : FVec F S8x30 .f32) (h : RlC m c 31 Y) : Y = totC m c := by
  funext j
  have hj : (j 0).val < 8 := (j 0).isLt
  have := h (j 0) (by omega)
  rw [show min (31 - 4 * (j 0).val) 3 = 3 by omega] at this
  have h2 := congrFun this (ix2 0 (j 1))
  unfold totC
  rw [← h2]
  exact congrArg Y (funext fun a => by match a with | 0 => rfl | 1 => rfl)

/-! ## The proof data -/

/-- The loss. -/
def totL (c : Dev nD) : FVec F S1x1 .f32 := lossOf (totS m c) (totC m c)

/-- What the regions leave in the arrays they write. -/
def outs : Outs (F := F) := fun _ r c =>
  if h : r = main_v1_0 then h ▸ totS m c
  else if h : r = main_v1_1 then h ▸ totC m c
  else if h : r = main_v2 then h ▸ totL m c
  else m ((c : Thread nD τ).loc r)

theorem outs_S (n : ℕ) (c : Dev nD) : outs m n main_v1_0 c = totS m c := rfl
theorem outs_C (n : ℕ) (c : Dev nD) : outs m n main_v1_1 c = totC m c := rfl
theorem outs_L (n : ℕ) (c : Dev nD) : outs m n main_v2 c = totL m c := rfl

/-- The summing region's data: the arrays as the region finds them; the inputs' blocks; the two totals. -/
def dat0 (c : Dev nD) : Dat τ (Elt F) Unit ℕ (UR sig nD τ) ℕ cfg0 c where
  A w := V1 m c (Proc.devRef .tc (Pipeline.arrRef spec0 w))
  after w t := match w with
    | ⟨0, _⟩ => blkM m c t
    | ⟨1, _⟩ => blkQ m c t
    | ⟨2, _⟩ => blkK m c t
    | ⟨3, _⟩ => totS m c
    | ⟨4, _⟩ => totC m c
  Φ _ := Pipeline.ΦA spec0 c
  q _ := fullShare
  owed _ := 0

/-- The loss region's. -/
def dat1 (c : Dev nD) : Dat τ (Elt F) Unit ℕ (UR sig nD τ) ℕ cfg1 c where
  A w := V2 m (outs m) c (Proc.devRef .tc (Pipeline.arrRef spec1 w))
  after w t := match w with
    | ⟨0, _⟩ => totS m c
    | ⟨1, _⟩ => totC m c
    | ⟨2, _⟩ => totL m c
  Φ _ := Pipeline.ΦA spec1 c
  q _ := fullShare
  owed _ := 0

/-- The summing region's accumulators are held to a relation. -/
def fg0 : Fin cfg0.W → Bool := fun | ⟨0, _⟩ => false | ⟨1, _⟩ => false | ⟨2, _⟩ => false | ⟨3, _⟩ => true | ⟨4, _⟩ => true
/-- The relation. -/
def Rl0 (c : Dev nD) : (w : Fin cfg0.W) → Fin cfg0.N → ((cfg0.win w).block.Idx → Elt F (cfg0.win w).elt) → Prop := fun w t X => match w with
  | ⟨0, _⟩ => True
  | ⟨1, _⟩ => True
  | ⟨2, _⟩ => True
  | ⟨3, _⟩ => RlS m c t.val X
  | ⟨4, _⟩ => RlC m c t.val X

/-- The loss region's result is held to a relation, -/
def fg1 : Fin cfg1.W → Bool := fun | ⟨0, _⟩ => false | ⟨1, _⟩ => false | ⟨2, _⟩ => true
/-- being the loss. -/
def Rl1 (c : Dev nD) : (w : Fin cfg1.W) → Fin cfg1.N → ((cfg1.win w).block.Idx → Elt F (cfg1.win w).elt) → Prop := fun w t X => match w with
  | ⟨0, _⟩ => True
  | ⟨1, _⟩ => True
  | ⟨2, _⟩ => X = totL m c

/-- Both regions' data. -/
def pdats : (p : Fin 2) → (c : Dev nD) → Dat τ (Elt F) Unit ℕ (UR sig nD τ) ℕ (cfgs p) c := fun p c => match p with
  | ⟨0, _⟩ => dat0 m c
  | ⟨1, _⟩ => dat1 m c
/-- The same, what the regions write held to the relations. -/
def rdats : (p : Fin 2) → (c : Dev nD) → RDat τ (Elt F) Unit ℕ (UR sig nD τ) ℕ (cfgs p) c := fun p c => match p with
  | ⟨0, _⟩ => (dat0 m c).toRRel fg0 (Rl0 m c)
  | ⟨1, _⟩ => (dat1 m c).toRRel fg1 (Rl1 m c)

theorem before0_0 (c : Dev nD) (t : Fin cfg0.N) (d) : (dat0 m c).before 0 t d = blkM m c t := by
  rw [(dat0 m c).before_fetched 0 t (fetch0_0 t)]; rfl
theorem before0_1 (c : Dev nD) (t : Fin cfg0.N) (d) : (dat0 m c).before 1 t d = blkQ m c t := by
  rw [(dat0 m c).before_fetched 1 t (fetch0_1 t)]; rfl
theorem before0_2 (c : Dev nD) (t : Fin cfg0.N) (d) : (dat0 m c).before 2 t d = blkK m c t := by
  rw [(dat0 m c).before_fetched 2 t (fetch0_2 t)]; rfl

theorem fetch_out3 (t : Fin cfg0.N) : (cfg0.win 3).fetch t = false := by
  cases h : (cfg0.win 3).fetch t with
  | false => rfl
  | true => revert h; revert t; decide +kernel
theorem fetch_out4 (t : Fin cfg0.N) : (cfg0.win 4).fetch t = false := by
  cases h : (cfg0.win 4).fetch t with
  | false => rfl
  | true => revert h; revert t; decide +kernel

/-- What a point finds in the sums' buffer meets the relation of the point before. -/
theorem finds3 (c : Dev nD) (t : Fin cfg0.N) (Y : FVec F S8x30x256 .f32) (h : ((dat0 m c).toRRel fg0 (Rl0 m c)).Finds 3 t Y) (ht : t.val ≠ 0) :
    RlS m c (t.val - 1) Y := by
  have hlt : t.val < 32 := lt_of_lt_of_eq t.isLt N32
  rcases (RDat.finds_of_pos ((dat0 m c).toRRel fg0 (Rl0 m c)) (fetch_out3 t) ht Y).mp h with hf | hl
  · exact absurd ((flush0_3 _).mp hf) (by show ¬ (t.val - 1) % 32 = 31; omega)
  · exact (dat0 m c).toRRel_leaves (w := 3) rfl hl
/-- And in the counts'. -/
theorem finds4 (c : Dev nD) (t : Fin cfg0.N) (Y : FVec F S8x30 .f32) (h : ((dat0 m c).toRRel fg0 (Rl0 m c)).Finds 4 t Y) (ht : t.val ≠ 0) :
    RlC m c (t.val - 1) Y := by
  have hlt : t.val < 32 := lt_of_lt_of_eq t.isLt N32
  rcases (RDat.finds_of_pos ((dat0 m c).toRRel fg0 (Rl0 m c)) (fetch_out4 t) ht Y).mp h with hf | hl
  · exact absurd ((flush0_4 _).mp hf) (by show ¬ (t.val - 1) % 32 = 31; omega)
  · exact (dat0 m c).toRRel_leaves (w := 4) rfl hl

theorem fetch_in1 : ∀ (w : Fin 3) (t : Fin cfg1.N), w ≠ 2 → (cfg1.win w).fetch t = true := by decide +kernel
theorem before1_0 (c : Dev nD) (t : Fin cfg1.N) (d) : (dat1 m c).before 0 t d = totS m c := by
  rw [(dat1 m c).before_fetched 0 t (fetch_in1 0 t (by decide))]
  funext j
  show V2 m (outs m) c (Proc.devRef .tc main_v1_0) _ = _
  rw [V2, Function.update_of_ne (StableHlo.devRef_ne_of_ne (by decide)), Function.update_self]
  exact congrArg (totS m c) (funext fun a => Fin.ext ((cfg1.win 0).rect_emb_val_of_index_zero t a rfl _))
theorem before1_1 (c : Dev nD) (t : Fin cfg1.N) (d) : (dat1 m c).before 1 t d = totC m c := by
  rw [(dat1 m c).before_fetched 1 t (fetch_in1 1 t (by decide))]
  funext j
  show V2 m (outs m) c (Proc.devRef .tc main_v1_1) _ = _
  rw [V2, Function.update_self]
  exact congrArg (totC m c) (funext fun a => Fin.ext ((cfg1.win 1).rect_emb_val_of_index_zero t a rfl _))

/-! ## The body obligations -/

theorem row0 (t : Fin cfg0.N) : (defs₀ (F := F)) .tc cfg0.body (cfg0.bodyArgs t (cfg0.slots t)) = bodyAt0 t := by
  unfold defs₀; rw [Defs.onTc_tc]
theorem row1 (t : Fin cfg1.N) : (defs₀ (F := F)) .tc cfg1.body (cfg1.bodyArgs t (cfg1.slots t)) = bodyAt1 t := by
  unfold defs₀; rw [Defs.onTc_tc]

set_option backward.isDefEq.respectTransparency.types false in
/-- The summing body at each point: the inputs stay, the accumulators keep the relation. -/
theorem sound0 (c : Dev nD) (t : Fin cfg0.N) :
    iprop(Pipeline.ΦA spec0 c ∗ (dat0 m c).owesAt () t.castSucc
        ∗ (∃ d, owns (c : Thread nD τ) ((cfg0.win 0).stage (cfg0.slots t 0)) fullShare ((dat0 m c).before 0 t d))
        ∗ (∃ d, owns (c : Thread nD τ) ((cfg0.win 1).stage (cfg0.slots t 1)) fullShare ((dat0 m c).before 1 t d))
        ∗ (∃ d, owns (c : Thread nD τ) ((cfg0.win 2).stage (cfg0.slots t 2)) fullShare ((dat0 m c).before 2 t d))
        ∗ (∃ Y, ⌜((dat0 m c).toRRel fg0 (Rl0 m c)).Finds 3 t Y⌝ ∗ owns (c : Thread nD τ) ((cfg0.win 3).stage (cfg0.slots t 3)) fullShare Y)
        ∗ (∃ Y, ⌜((dat0 m c).toRRel fg0 (Rl0 m c)).Finds 4 t Y⌝ ∗ owns (c : Thread nD τ) ((cfg0.win 4).stage (cfg0.slots t 4)) fullShare Y))
      ⊢ wp frame (wpE (defs₀ (F := F)) Variants.none c none) Set.univ (bodyAt0 t) fun _ =>
        iprop(Pipeline.ΦA spec0 c ∗ (dat0 m c).owesAt () t.castSucc
        ∗ owns (c : Thread nD τ) ((cfg0.win 0).stage (cfg0.slots t 0)) fullShare (blkM m c t)
        ∗ owns (c : Thread nD τ) ((cfg0.win 1).stage (cfg0.slots t 1)) fullShare (blkQ m c t)
        ∗ owns (c : Thread nD τ) ((cfg0.win 2).stage (cfg0.slots t 2)) fullShare (blkK m c t)
        ∗ (∃ X, ⌜Rl0 m c 3 t X⌝ ∗ owns (c : Thread nD τ) ((cfg0.win 3).stage (cfg0.slots t 3)) fullShare X)
        ∗ (∃ X, ⌜Rl0 m c 4 t X⌝ ∗ owns (c : Thread nD τ) ((cfg0.win 4).stage (cfg0.slots t 4)) fullShare X)) := by
  iintro ⟨HΦ, HO, ⟨%d0, H0⟩, ⟨%d1, H1⟩, ⟨%d2, H2⟩, ⟨%Y3, %h3, H3⟩, ⟨%Y4, %h4, H4⟩⟩
  rw [before0_0, before0_1, before0_2]
  iapply (body0 c (grid0.coords t) _ _ _ _ _ _ _ _ _ _ (blkM m c t) (blkQ m c t) (blkK m c t) Y3 Y4 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]
  · iexists _; isplitr; swap; · iexact H3
    ipureintro
    exact stepS_rel m c t Y3 (finds3 m c t Y3 h3)
  · iexists _; isplitr; swap; · iexact H4
    ipureintro
    exact stepC_rel m c t Y4 (finds4 m c t Y4 h4)

set_option backward.isDefEq.respectTransparency.types false in
/-- The summing region's body obligation. -/
theorem oblig0 (c : Dev nD) : ((dat0 m c).toRRel fg0 (Rl0 m c)).BodyObligation (defs₀ (F := F)) Variants.none () Set.univ :=
  Pipeline.BodyObligationRel.toRRel (dat0 m c) fun t => by
    rw [bigSep_W0, bigSep_W0, row0]
    exact triple_restated (sound0 m c t) rfl .rfl fun _ => .rfl

set_option backward.isDefEq.respectTransparency.types false in
/-- The loss body at its point. -/
theorem sound1 (c : Dev nD) (t : Fin cfg1.N) :
    iprop(Pipeline.ΦA spec1 c ∗ (dat1 m c).owesAt () t.castSucc
        ∗ (∃ d, owns (c : Thread nD τ) ((cfg1.win 0).stage (cfg1.slots t 0)) fullShare ((dat1 m c).before 0 t d))
        ∗ (∃ d, owns (c : Thread nD τ) ((cfg1.win 1).stage (cfg1.slots t 1)) fullShare ((dat1 m c).before 1 t d))
        ∗ (∃ Y, ⌜((dat1 m c).toRRel fg1 (Rl1 m c)).Finds 2 t Y⌝ ∗ owns (c : Thread nD τ) ((cfg1.win 2).stage (cfg1.slots t 2)) fullShare Y))
      ⊢ wp frame (wpE (defs₀ (F := F)) Variants.none c none) Set.univ (bodyAt1 t) fun _ =>
        iprop(Pipeline.ΦA spec1 c ∗ (dat1 m c).owesAt () t.castSucc
        ∗ owns (c : Thread nD τ) ((cfg1.win 0).stage (cfg1.slots t 0)) fullShare (totS m c)
        ∗ owns (c : Thread nD τ) ((cfg1.win 1).stage (cfg1.slots t 1)) fullShare (totC m c)
        ∗ (∃ X, ⌜Rl1 m c 2 t X⌝ ∗ owns (c : Thread nD τ) ((cfg1.win 2).stage (cfg1.slots t 2)) fullShare X)) := by
  iintro ⟨HΦ, HO, ⟨%d0, H0⟩, ⟨%d1, H1⟩, ⟨%Y2, -, H2⟩⟩
  rw [before1_0, before1_1]
  iapply (body1 c _ _ _ _ _ _ (totS m c) (totC m c) _)
  isplitl [H0]; · iexact H0
  isplitl [H1]; · iexact H1
  isplitl [H2]; · iexists Y2; iexact H2
  iintro ⟨H0, H1, H2⟩
  isplitl [HΦ]; · iexact HΦ
  isplitl [HO]; · iexact HO
  isplitl [H0]; · iexact H0
  isplitl [H1]; · iexact H1
  iexists _; isplitr; swap; · iexact H2
  ipureintro
  rfl

set_option backward.isDefEq.respectTransparency.types false in
/-- The loss region's body obligation. -/
theorem oblig1 (c : Dev nD) : ((dat1 m c).toRRel fg1 (Rl1 m c)).BodyObligation (defs₀ (F := F)) Variants.none () Set.univ :=
  Pipeline.BodyObligationRel.toRRel (dat1 m c) fun t => by
    rw [bigSep_W1, bigSep_W1, row1]
    exact triple_restated (sound1 m c t) rfl .rfl fun _ => .rfl

end Cert.KernelIdeal.Run
-- ==== Proof.IRun.lean ====
/-
  The run of the whole program: its two regions as segments between the host's operations; every execution ends with the
  arguments as launched, every counter at zero, and the result at the loss computed from the regions' totals.
-/
module

public import proofs.«01_k».proof.Proof.IData
public import Idealize.ShloMosaic.Lib.Pipeline.Regions
public import Idealize.ShloMosaic.Lib.Pipeline.RegionsLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.ValueIdx (ix2 ix3)
open Idealize.ShloMosaic.Pipeline (Dat RDat)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- No semaphore carries a level: no core owes another anything. -/
abbrev L : GSem nD τ sig → Finset Unit := fun _ => ∅
abbrev lv : GSem nD τ sig → Unit → ℕ := fun _ _ => 0

/-- What rides beside the buffers: the generator's register at some value, and the core owing nothing. -/
def rest (c : Dev nD) : sProp 𝕄 := iprop((∃ r, prngReg c r) ∗ ∃ W, owes (c.tc : Thread nD τ) (0 : CellTallies nD τ sig Unit) W)

/-! ## What the regions leave in their arrays -/

/-- The summing region's last point. -/
def last0 : Fin cfg0.N := ⟨31, lt_of_lt_of_eq (by decide) N32.symm⟩
theorem whole3 : (cfg0.win 3).WholeAt last0 := by decide +kernel
theorem whole4 : (cfg0.win 4).WholeAt last0 := by decide +kernel
theorem whole2 : (cfg1.win 2).WholeAt t1_0 := by decide +kernel

/-- The summing region leaves its arrays at the second valuation. -/
theorem left0 (c : Dev nD) (w : Fin 5) (G : Buf (Elt F) ((cfg0.win w).arr.view.loc (c.tc : Thread nD τ)))
    (h : ((dat0 m c).toRRel fg0 (Rl0 m c)).ArrAt w cfg0.N G) :
    G = V2 m (outs m) c (Proc.devRef .tc (Pipeline.arrRef spec0 w)) := by
  match w, G, h with
  | 0, G, h =>
    rw [RDat.ArrAt_in _ 0 rfl] at h
    exact h.trans (V2_of m (outs m) c main_v0 (by decide)).symm
  | 1, G, h =>
    rw [RDat.ArrAt_in _ 1 rfl] at h
    exact h.trans (V2_of m (outs m) c main_arg0 (by decide)).symm
  | 2, G, h =>
    rw [RDat.ArrAt_in _ 2 rfl] at h
    exact h.trans (V2_of m (outs m) c main_arg1 (by decide)).symm
  | 3, G, h =>
    obtain ⟨X, hX, hG⟩ := h.emb_eq_of_wholeAt whole3
    have hX' : X = totS m c := RlS_last m c X ((dat0 m c).toRRel_leaves (w := 3) rfl hX)
    show G = V2 m (outs m) c (Proc.devRef .tc main_v1_0)
    rw [V2, Function.update_of_ne (StableHlo.devRef_ne_of_ne (by decide)), Function.update_self, outs_S, ← hX']
    funext j
    exact hG j
  | 4, G, h =>
    obtain ⟨X, hX, hG⟩ := h.emb_eq_of_wholeAt whole4
    have hX' : X = totC m c := RlC_last m c X ((dat0 m c).toRRel_leaves (w := 4) rfl hX)
    show G = V2 m (outs m) c (Proc.devRef .tc main_v1_1)
    rw [V2, Function.update_self, outs_C, ← hX']
    funext j
    exact hG j

/-- The loss region leaves its arrays at the third. -/
theorem left1 (c : Dev nD) (w : Fin 3) (G : Buf (Elt F) ((cfg1.win w).arr.view.loc (c.tc : Thread nD τ)))
    (h : ((dat1 m c).toRRel fg1 (Rl1 m c)).ArrAt w cfg1.N G) :
    G = V3 m (outs m) c (Proc.devRef .tc (Pipeline.arrRef spec1 w)) := by
  match w, G, h with
  | 0, G, h =>
    rw [RDat.ArrAt_in _ 0 rfl] at h
    exact h.trans (V3_of m (outs m) c main_v1_0 (by decide)).symm
  | 1, G, h =>
    rw [RDat.ArrAt_in _ 1 rfl] at h
    exact h.trans (V3_of m (outs m) c main_v1_1 (by decide)).symm
  | 2, G, h =>
    obtain ⟨X, hX, hG⟩ := h.emb_eq_of_wholeAt whole2
    have hX' : X = totL m c := (dat1 m c).toRRel_leaves (w := 2) rfl hX
    show G = V3 m (outs m) c (Proc.devRef .tc main_v2)
    rw [V3, Function.update_self, outs_L, ← hX']
    funext j
    exact hG j

/-- Arrays at contents some run may leave are arrays at the contents every run leaves. -/
theorem settle {cfg : Pipeline.Cfg sig Λ₀} {c : Dev nD} (rd : RDat τ (Elt F) Unit ℕ (UR sig nD τ) ℕ cfg c) (n : ℕ)
    (T : (w : Fin cfg.W) → Buf (Elt F) ((cfg.win w).arr.view.loc (c.tc : Thread nD τ)))
    (h : ∀ w G, rd.ArrAt w n G → G = T w) : (rd.arraysAt n : sProp 𝕄) ⊢ rd.arrays T := by
  unfold RDat.arraysAt RDat.arrays
  refine BI.bigSep_mono fun w _ => show (iprop(∃ G, ⌜rd.ArrAt w n G⌝ ∗ View.loc c.tc (cfg.win w).arr.view ↦[(cfg.win w).arr.view.set]{rd.share w} G) : sProp 𝕄)
    ⊢ View.loc c.tc (cfg.win w).arr.view ↦[(cfg.win w).arr.view.set]{rd.share w} T w from ?_
  iintro ⟨%G, %hG, H⟩
  rw [← h w G hG]
  iexact H

/-- Owing nothing, at any record of waits, is what a region that owes nothing starts from -/
theorem owes_in {cfg : Pipeline.Cfg sig Λ₀} {c : Dev nD} (rd : RDat τ (Elt F) Unit ℕ (UR sig nD τ) ℕ cfg c) (t : Fin (cfg.N + 1))
    (h0 : rd.owed t = 0) (hr : rd.recorded t = Set.univ) :
    (iprop(∃ W, owes (c.tc : Thread nD τ) (0 : CellTallies nD τ sig Unit) W) : sProp 𝕄) ⊢ rd.owesAt () t := by
  unfold RDat.owesAt Pipeline.owesWithin
  rw [h0]
  iintro ⟨%W, HO⟩
  iexists W; isplitr; · ipureintro; exact fun x _ => Or.inl (hr ▸ trivial)
  iexact HO
/-- and what it ends with. -/
theorem owes_out {cfg : Pipeline.Cfg sig Λ₀} {c : Dev nD} (rd : RDat τ (Elt F) Unit ℕ (UR sig nD τ) ℕ cfg c) (t : Fin (cfg.N + 1))
    (h0 : rd.owed t = 0) :
    (rd.owesAt () t : sProp 𝕄) ⊢ iprop(∃ W, owes (c.tc : Thread nD τ) (0 : CellTallies nD τ sig Unit) W) := by
  unfold RDat.owesAt Pipeline.owesWithin
  rw [h0]
  iintro ⟨%W, -, HO⟩
  iexists W; iexact HO

/-! ## The regions as segments -/

set_option backward.isDefEq.respectTransparency.types false in
/-- A region as a segment between two valuations of the core's buffers that differ on its arrays alone. -/
def region (p : Fin 2) (kit : Pipeline.PLaunchFacts (nD := nD) (τ := τ) (pcfgs (F := F)) p) (V V' : Dev nD → Valuation τ sig (Elt F))
    (hbody : ∀ c, (rdats m p c).BodyObligation (defs₀ (F := F)) Variants.none () Set.univ)
    (howed : ∀ c t, (rdats m p c).owed t = 0)
    (hrec : ∀ c t, (rdats m p c).recorded t = Set.univ)
    (hshare : ∀ c w, (pdats m p c).share w = fullShare)
    (hshareR : ∀ c w, (rdats m p c).share w = fullShare)
    (hΦ : ∀ c t, (rdats m p c).Φ t = Pipeline.ΦA (Pipeline.pin (pcfgs (F := F)) adm p).spec c)
    (hA : ∀ c w, (rdats m p c).A w = V c (Proc.devRef .tc (Pipeline.arrRef (Pipeline.pin (pcfgs (F := F)) adm p).spec w)))
    (harr : ∀ c G, (rdats m p c).arrays G = (pdats m p c).arrays G)
    (hleft : ∀ c w G, (rdats m p c).ArrAt w (Pipeline.pin (pcfgs (F := F)) adm p).N G →
      G = V' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      V' c (Proc.devRef .tc b) = V c (Proc.devRef .tc b)) :
    RDat.RegionSeg (pcfgs (F := F)) adm (rdats m) () (defs₀ (F := F)) Variants.none L lv p where
  win := kit.win.to₀
  block_pos := kit.block_pos
  stage_whole := kit.stage_whole
  K := PEmpty
  osem := fun k => k.elim
  ho := Pipeline.OwnSemFacts.none _
  hbody := hbody
  hwaits := RDat.hwaits_of_owed_zero (pcfgs (F := F)) adm (rdats m) () L lv p howed
  pre := fun c => iprop(StableHlo.held (c.tc : Thread nD τ) (Pipeline.ucRefs τ sig) (V c) ∗ rest c)
  post := fun c => iprop(StableHlo.held (c.tc : Thread nD τ) (Pipeline.ucRefs τ sig) (V' c) ∗ rest c)
  X := fun c => iprop(∃ r, prngReg c r)
  Y := fun c => iprop(∃ r, prngReg c r)
  Z := fun c => Pipeline.unscopedRest (Ix := Unit) (Name := ℕ) (U := UR sig nD τ) (Lvl := ℕ) (Pipeline.pin (pcfgs (F := F)) adm p).spec c (fun b => V c (Proc.devRef .tc b))
  hentry := fun c => by
    rw [Pipeline.ownSems0_none,
      show StableHlo.held (c.tc : Thread nD τ) (Pipeline.ucRefs τ sig) (V c) = unscopedBufs c (fun b => V c (Proc.devRef .tc b))
        from (Pipeline.unscopedBufs_held (Ix := Unit) (Name := ℕ) (U := UR sig nD τ) (Lvl := ℕ) c (V c)).symm]
    have hsplit := RDat.arrays_of_unscopedBufs (p := p) (pcfgs (F := F)) adm (rdats m) kit.win kit.arr_whole c (hshareR c)
      (fun b => V c (Proc.devRef .tc b)) (fun w => hA c w)
    unfold rest
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · iapply (owes_in (rdats m p c) 0 (howed c 0) (hrec c 0)); iexact HO
    isplitl [Hp]; · iexact Hp
    iexact Hrest
  hin := fun c => by
    rw [hΦ]; unfold Pipeline.ΦA
    iintro ⟨Hp, -, Hr⟩
    isplitl [Hr] <;> iassumption
  hout := fun c => by
    rw [hΦ, Pipeline.ownSems0_none]; unfold Pipeline.ΦA
    iintro ⟨Hr, Hp⟩
    isplitl [Hp]; · iexact Hp
    isplitr; · iempintro
    iexact Hr
  hexit := fun c => by
    have hjoin := Pipeline.unscopedBufs_of_arrays (p := p) (pcfgs (F := F)) adm (Ix := Unit) (Name := ℕ) (U := UR sig nD τ) (Lvl := ℕ)
      kit.win kit.arr_whole c (pdats m) (hshare c)
      (fun b => V c (Proc.devRef .tc b)) (fun b => V' c (Proc.devRef .tc b))
      (fun w => V' c (Proc.devRef .tc (Pipeline.arrRef (Pipeline.pin (pcfgs (F := F)) adm p).spec w)))
      (fun w => rfl) (fun b hb => hrest c b hb)
    have hset := settle (rdats m p c) (Pipeline.pin (pcfgs (F := F)) adm p).N
      (fun w => V' c (Proc.devRef .tc (Pipeline.arrRef (Pipeline.pin (pcfgs (F := F)) adm p).spec w))) (fun w G h => hleft c w G h)
    rw [harr] at hset
    rw [show StableHlo.held (c.tc : Thread nD τ) (Pipeline.ucRefs τ sig) (V' c) = unscopedBufs c (fun b => V' c (Proc.devRef .tc b))
        from (Pipeline.unscopedBufs_held (Ix := Unit) (Name := ℕ) (U := UR sig nD τ) (Lvl := ℕ) c (V' c)).symm]
    unfold rest
    iintro ⟨Ha, HO, Hp, Hrest⟩
    ihave Ha := hset $$ Ha
    imodintro
    isplitl [Ha Hrest]
    · iapply hjoin; isplitl [Ha] <;> iassumption
    isplitl [Hp]; · iexact Hp
    iapply (owes_out (rdats m p c) (Fin.last _) (howed c (Fin.last _))); iexact HO

set_option backward.isDefEq.respectTransparency.types false in
/-- The summing region. -/
def region0 : RDat.RegionSeg (pcfgs (F := F)) adm (rdats m) () (defs₀ (F := F)) Variants.none L lv 0 :=
  region m 0 launch0.toP (V1 m) (V2 m (outs m)) (oblig0 m) (fun _ _ => rfl) (fun _ _ => rfl)
    (fun c => (dat0 m c).share_full fun _ => rfl) (fun c => (dat0 m c).share_full fun _ => rfl) (fun _ _ => rfl) (fun _ _ => rfl) (fun _ _ => rfl)
    (fun c w G h => left0 m c w G h)
    (fun c b hb => V2_of m (outs m) c b fun h => hb (by
      rcases List.mem_cons.mp h with rfl | h
      · exact Finset.mem_image.mpr ⟨3, Finset.mem_univ _, rfl⟩
      · rw [List.mem_singleton.mp h]; exact Finset.mem_image.mpr ⟨4, Finset.mem_univ _, rfl⟩))

set_option backward.isDefEq.respectTransparency.types false in
/-- The loss region. -/
def region1 : RDat.RegionSeg (pcfgs (F := F)) adm (rdats m) () (defs₀ (F := F)) Variants.none L lv 1 :=
  region m 1 launch1.toP (V2 m (outs m)) (V3 m (outs m)) (oblig1 m) (fun _ _ => rfl) (fun _ _ => rfl)
    (fun c => (dat1 m c).share_full fun _ => rfl) (fun c => (dat1 m c).share_full fun _ => rfl) (fun _ _ => rfl) (fun _ _ => rfl) (fun _ _ => rfl)
    (fun c w G h => left1 m c w G h)
    (fun c b hb => V3_of m (outs m) c b fun h => hb (by
      rw [List.mem_singleton.mp h]; exact Finset.mem_image.mpr ⟨2, Finset.mem_univ _, rfl⟩))

/-- The program's items in order. -/
abbrev items : List (RDat.Seg (pcfgs (F := F)) adm (rdats m) () (defs₀ (F := F)) Variants.none L lv) :=
  [.host (seg0 m Variants.none L lv fun _ => rest), .region (region0 m), .region (region1 m), .host (seg3 m (outs m) Variants.none L lv fun _ => rest)]

/-- The result: the host's last operation on the loss region's. -/
def result (c : Dev nD) : Buf (Elt F) ((c.tc : Thread nD τ).loc main_v3) := V4 m (outs m) c main_v3

set_option backward.isDefEq.respectTransparency.types false in
/-- Every execution ends with the result computed, the arguments as launched and every counter at zero. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine RDat.θ_run_regions_kit_sems (pcfgs (F := F)) adm (rdats m) () cellOf_inj emb₁ (defs₀ (F := F)) Variants.none L lv m ρ main
    (items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()),
          StableHlo.seq hostOps2 ] from rfl]
      exact .rfl)
    (by simp only [RDat.Seg.pipes_host, RDat.Seg.pipes_region, RDat.Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V4 m (outs m) c))
    (hch := ⟨fun _ => .rfl, fun _ => .rfl, fun _ => .rfl, fun _ => .rfl, fun c =>
      (show iprop(StableHlo.held (c.tc : Thread nD τ) (Pipeline.ucRefs τ sig) (V4 m (outs m) c)
          ∗ rest c) ⊢ (iprop(StableHlo.held (c.tc : Thread nD τ) (Pipeline.ucRefs τ sig) (V4 m (outs m) c)
          ∗ ∃ W, owes (c.tc : Thread nD τ) (0 : CellTallies nD τ sig Unit) W) : sProp 𝕄) from by
        unfold rest
        iintro ⟨Hh, -, HO⟩
        isplitl [Hh] <;> iassumption)⟩)
    (hinit := by
      refine Pipeline.initEach L lv fun c => ?_
      rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
      unfold rest
      iintro ⟨⟨Hh, -, HO, -, Hp, -⟩, -⟩
      imodintro
      isplitl [Hh]; · iexact Hh
      isplitl [Hp]; · iexists _; iexact Hp
      iexists _; iexact HO)
    (QY := fun c s => s.mem ((c.tc : Thread nD τ).loc main_v3) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    exact ⟨h (Proc.devRef .tc main_v3) (Finset.mem_filter.mpr ⟨StableHlo.devRef_mem_tcRefs main_v3, by decide⟩),
      (h (Proc.devRef .tc main_arg0) (Finset.mem_filter.mpr ⟨StableHlo.devRef_mem_tcRefs main_arg0, by decide⟩)).trans (V4_main_arg0 m (outs m) c),
      (h (Proc.devRef .tc main_arg1) (Finset.mem_filter.mpr ⟨StableHlo.devRef_mem_tcRefs main_arg1, by decide⟩)).trans (V4_main_arg1 m (outs m) c),
      (h (Proc.devRef .tc main_arg2) (Finset.mem_filter.mpr ⟨StableHlo.devRef_mem_tcRefs main_arg2, by decide⟩)).trans (V4_main_arg2 m (outs m) c)⟩
  · iexact HSI

end Cert.KernelIdeal.Run
-- ==== Proof.Means.lean ====
/-
  The loss as mathematics over the extended reals: masked sums of features, their means, the means scaled to unit
  length, the table of similarities and the cross entropy of its rows against the diagonal. No program.
-/
module

public import Idealize.ShloMosaic.Lib.Pointwise

@[expose] public section

set_option maxRecDepth 16384

noncomputable section

namespace Cert.Loss

open Idealize.ShloMosaic

/-- A stack of feature maps: image, channel, row, column. -/
abbrev Feat := (⟨4, ![8, 128, 128, 128]⟩ : Shape).Idx → EReal
/-- A stack of masks: image, mask, row, column. -/
abbrev Mask := (⟨4, ![8, 30, 128, 128]⟩ : Shape).Idx → BitVec 1

/-- A mask's bit as the number it multiplies by. -/
def bit (b : BitVec 1) : EReal := ((b.toNat : ℝ) : EReal)

/-- The mask's number at pixel `p` of image `b` (pixels counted along the rows). -/
def maskAt (M : Mask) (b : Fin 8) (k : Fin 30) (p : Fin 16384) : EReal :=
  bit (M (ix4 b k ⟨p.val / 128, by omega⟩ ⟨p.val % 128, by omega⟩))
/-- A feature's value at pixel `p` of image `b`. -/
def featAt (X : Feat) (b : Fin 8) (c : Fin 128) (p : Fin 16384) : EReal :=
  X (ix4 b c ⟨p.val / 128, by omega⟩ ⟨p.val % 128, by omega⟩)

/-- How many pixels mask `k` of image `b` holds. -/
def count (M : Mask) (b : Fin 8) (k : Fin 30) : EReal := ∑ p : Fin 16384, maskAt M b k p
/-- The sum of channel `c` over those pixels. -/
def total (X : Feat) (M : Mask) (b : Fin 8) (k : Fin 30) (c : Fin 128) : EReal := ∑ p : Fin 16384, maskAt M b k p * featAt X b c p

/-- The mean feature of mask `n / 8` in image `n % 8`. -/
def mean (X : Feat) (M : Mask) (n : Fin 240) (c : Fin 128) : EReal :=
  Ideal.div (total X M ⟨n.val % 8, by omega⟩ ⟨n.val / 8, by omega⟩ c) (max (count M ⟨n.val % 8, by omega⟩ ⟨n.val / 8, by omega⟩) 1)

/-- The least length a row is divided by. -/
def eps : EReal := Ideal.ofBits .f32 0x2B8CBCCC#32
/-- The temperature. -/
def tau : EReal := Ideal.ofBits .f32 0x3D8F5C29#32

/-- A row's length, held above `eps`. -/
def len (A : Fin 240 → Fin 128 → EReal) (i : Fin 240) : EReal := max (Ideal.sqrt (∑ c, A i c * A i c)) eps
/-- The rows at unit length. -/
def unit (A : Fin 240 → Fin 128 → EReal) (i : Fin 240) (c : Fin 128) : EReal := Ideal.div (A i c) (len A i)
/-- The similarity of second mean `i` and first mean `j`, over the temperature. -/
def sim (Q K : Fin 240 → Fin 128 → EReal) (i j : Fin 240) : EReal := Ideal.div (∑ c, unit K i c * unit Q j c) tau

/-- The greatest entry of a row. -/
def top (S : Fin 240 → Fin 240 → EReal) (i : Fin 240) : EReal := Finset.univ.fold max ⊥ fun j => S i j
/-- The logarithm of the sum of a row's exponentials. -/
def lse (S : Fin 240 → Fin 240 → EReal) (i : Fin 240) : EReal := top S i + Ideal.log (∑ j, Ideal.exp (S i j - top S i))
/-- Whether a row counts: its first entry is not zero. -/
def valid (K : Fin 240 → Fin 128 → EReal) (i : Fin 240) : EReal := if K i 0 = 0 then 0 else 1

/-- The mean, over the rows that count, of the cross entropy of a row against its diagonal entry. -/
def crossEntropy (S : Fin 240 → Fin 240 → EReal) (v : Fin 240 → EReal) : EReal :=
  Ideal.div (∑ i, (lse S i - S i i) * v i) (max (∑ i, v i) 1)

/-- The loss of two stacks of features under one stack of masks. -/
def loss (X Y : Feat) (M : Mask) : EReal := crossEntropy (sim (mean X M) (mean Y M)) (valid (mean Y M))

/-! ## Pixels by chunks -/

/-- The pixel at place `p` of chunk `k`. -/
def pix (k : Fin 4) (p : Fin 4096) : Fin 16384 := ⟨4096 * k.val + p.val, by omega⟩

/-- A sum over the pixels is the sum of its four chunks, taken in order. -/
theorem sum_pix (f : Fin 16384 → EReal) :
    ∑ p, f p = (((∑ p, f (pix 0 p)) + ∑ p, f (pix 1 p)) + ∑ p, f (pix 2 p)) + ∑ p, f (pix 3 p) := by
  rw [← Fin.sum_univ_four (f := fun k => ∑ p, f (pix k p)), ← Fintype.sum_prod_type']
  refine (Fintype.sum_equiv (finProdFinEquiv (m := 4) (n := 4096)) _ _ fun x => ?_).symm
  congr 1
  exact Fin.ext (by show 4096 * x.1.val + x.2.val = x.2.val + 4096 * x.1.val; omega)

/-! ## Every similarity is a real number -/

theorem neg_inf : Ideal.ofBits .f32 0xFF800000#32 = ⊥ := by simp [Ideal.ofBits, Ideal.ieee]

theorem eps_pos : ∃ r : ℝ, 0 < r ∧ eps = (r : EReal) := by
  refine ⟨_, ?_, by unfold eps; simp [Ideal.ofBits, Ideal.ieee, -EReal.coe_mul]; rfl⟩
  positivity
theorem tau_ne : ∃ r : ℝ, r ≠ 0 ∧ tau = (r : EReal) := by
  refine ⟨_, ?_, by unfold tau; simp [Ideal.ofBits, Ideal.ieee, -EReal.coe_mul]; rfl⟩
  positivity

theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- A finite sum of real numbers is one. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row at unit length is a row of real numbers: where an entry is infinite so is the length, and the quotients are zero. -/
theorem unit_real (A : Fin 240 → Fin 128 → EReal) (i : Fin 240) (c : Fin 128) : ∃ r : ℝ, unit A i c = (r : EReal) := by
  obtain ⟨e, he, hE⟩ := eps_pos
  have h0 : 0 ≤ ∑ c, A i c * A i c := Finset.sum_nonneg fun c _ => sq_nonneg' _
  have hle : A i c * A i c ≤ ∑ c, A i c * A i c := Finset.single_le_sum (f := fun c => A i c * A i c) (fun c _ => sq_nonneg' _) (Finset.mem_univ c)
  unfold unit len
  generalize (∑ c, A i c * A i c) = S at h0 hle
  generalize A i c = x at hle
  induction S with
  | bot => exact absurd h0 (by simp)
  | top =>
    refine ⟨0, ?_⟩
    rw [show Ideal.sqrt ⊤ = ⊤ from rfl, max_eq_left le_top, Ideal.div, if_neg (by simp), EReal.inv_top, mul_zero]
    rfl
  | coe r =>
    have hr : ¬ r < 0 := not_lt.mpr (by exact_mod_cast h0)
    have hs : Ideal.sqrt (r : EReal) = ((Real.sqrt r : ℝ) : EReal) := by
      show (if r < 0 then ⊥ else (Real.sqrt r : EReal)) = _
      rw [if_neg hr]
    induction x with
    | bot => rw [EReal.bot_mul_bot] at hle; exact absurd hle (by simp)
    | top => rw [EReal.top_mul_top] at hle; exact absurd hle (by simp)
    | coe y =>
      rw [hs, hE, ← (EReal.coe_strictMono.monotone.map_max : ((max (Real.sqrt r) e : ℝ) : EReal) = _), Ideal.div_coe (lt_max_of_lt_right he).ne', ← EReal.coe_mul]
      exact ⟨_, rfl⟩

/-- So every similarity is a real number. -/
theorem sim_real (Q K : Fin 240 → Fin 128 → EReal) : ∃ f : Fin 240 → Fin 240 → ℝ, ∀ i j, sim Q K i j = (f i j : EReal) := by
  choose u hu using unit_real K
  choose v hv using unit_real Q
  obtain ⟨t, ht, hT⟩ := tau_ne
  refine ⟨fun i j => (∑ c, u i c * v j c) * (1 / t), fun i j => ?_⟩
  unfold sim
  rw [hT, Ideal.div_coe ht, EReal.coe_mul, ← sum_coe]
  simp only [hu, hv, EReal.coe_mul]

/-- The greatest entry of a row of real numbers is a real number. -/
theorem top_real (S : Fin 240 → Fin 240 → EReal) (f : Fin 240 → Fin 240 → ℝ) (h : ∀ i j, S i j = (f i j : EReal)) (i : Fin 240) :
    ∃ t : ℝ, top S i = (t : EReal) := by
  have hlt : top S i < ⊤ := (Finset.fold_max_lt (c := (⊤ : EReal))).mpr ⟨bot_lt_top, fun j _ => by rw [h]; exact EReal.coe_lt_top _⟩
  have hgt : ⊥ < top S i := (Finset.lt_fold_max (c := (⊥ : EReal))).mpr (Or.inr ⟨0, Finset.mem_univ _, by rw [h]; exact EReal.bot_lt_coe _⟩)
  exact ⟨_, (EReal.coe_toReal hlt.ne hgt.ne').symm⟩

/-- Over real entries, taking the greatest out of a row changes nothing: the logarithm of the sum of the exponentials. -/
theorem lse_eq (S : Fin 240 → Fin 240 → EReal) (f : Fin 240 → Fin 240 → ℝ) (h : ∀ i j, S i j = (f i j : EReal)) (i : Fin 240) :
    lse S i = Ideal.log (∑ j, Ideal.exp (S i j)) := by
  obtain ⟨t, ht⟩ := top_real S f h i
  have log_pos : ∀ r : ℝ, 0 < r → Ideal.log (r : EReal) = ((Real.log r : ℝ) : EReal) := fun r hr => by
    show (if r ≤ 0 then ⊥ else (Real.log r : EReal)) = _
    rw [if_neg (not_le.mpr hr)]
  have e1 : ∀ j, Ideal.exp (S i j - (t : EReal)) = ((Real.exp (f i j - t) : ℝ) : EReal) := fun j => by
    rw [h, ← EReal.coe_sub]; rfl
  have e2 : ∀ j, Ideal.exp (S i j) = ((Real.exp (f i j) : ℝ) : EReal) := fun j => by rw [h]; rfl
  have p1 : 0 < ∑ j, Real.exp (f i j) := Finset.sum_pos (fun j _ => Real.exp_pos _) ⟨0, Finset.mem_univ _⟩
  have hq : ∑ j, Real.exp (f i j - t) = (∑ j, Real.exp (f i j)) / Real.exp t := by
    rw [Finset.sum_div]
    exact Finset.sum_congr rfl fun j _ => Real.exp_sub _ _
  unfold lse
  rw [ht]
  simp only [e1, e2]
  rw [sum_coe, sum_coe, log_pos _ p1, hq, log_pos _ (div_pos p1 (Real.exp_pos t)), ← EReal.coe_add,
    Real.log_div p1.ne' (Real.exp_pos t).ne', Real.log_exp, add_sub_cancel]

end Cert.Loss

end
-- ==== Proof.Sums.lean ====
/-
  The summing region's result over the extended reals: each image's row of sums and counts after its four chunks is the
  masked sum over all its pixels.
-/
module

public import proofs.«01_k».proof.Proof.IData
public import proofs.«01_k».proof.Proof.Means
public import Idealize.ShloMosaic.Lib.StableHlo.Run

@[expose] public section

set_option maxRecDepth 16384

noncomputable section

namespace Cert.KernelIdeal.Run

open Cert.KernelIdeal Cert.KernelIdeal.Gen Cert.Loss
open Idealize.ShloMosaic Idealize.ShloMosaic.TcCoe
open Idealize.SL Idealize.SL.Sem

variable (m : (ℓ : Loc nD τ sig) → Buf (Elt Ideal) ℓ)

/-- The first features, -/
abbrev argQ (c : Dev nD) : Feat := m ((c.tc : Thread nD τ).loc main_arg0)
/-- the second features -/
abbrev argK (c : Dev nD) : Feat := m ((c.tc : Thread nD τ).loc main_arg1)
/-- and the masks a device starts with. -/
abbrev argM (c : Dev nD) : Mask := m ((c.tc : Thread nD τ).loc main_arg2)

/-- Where a point stands: its image and its chunk. -/
theorem blk_at : ∀ t : Fin cfg0.N, win0_0.index t 0 = t.val / 4 ∧ win0_0.index t 1 = 0 ∧ win0_0.index t 2 = t.val % 4 ∧ win0_0.index t 3 = 0
    ∧ win0_1.index t 0 = t.val / 4 ∧ win0_1.index t 1 = 0 ∧ win0_1.index t 2 = t.val % 4 ∧ win0_1.index t 3 = 0
    ∧ win0_2.index t 0 = t.val / 4 ∧ win0_2.index t 1 = 0 ∧ win0_2.index t 2 = t.val % 4 ∧ win0_2.index t 3 = 0 := by
  decide +kernel

/-- The masks' words are the bits, widened. -/
theorem V1_v0 (c : Dev nD) : V1 m c main_v0 = extui 32 (argM m c) natLt_1_32 := by
  rw [V1, hostOps0]
  after_results

/-- A feature block's entry: channel `a`, at place `p` of the point's chunk. -/
theorem blkQ_at (c : Dev nD) (b : Fin 8) (k : Fin 4) (a : Fin 128) (p : Fin 4096) :
    blkQ m c (ptOf b k.val) (ix4 0 a ⟨p.val / 128, by omega⟩ ⟨p.val % 128, by omega⟩) = featAt (argQ m c) b a (pix k p) := by
  obtain ⟨-, -, -, -, h0, h1, h2, h3, -⟩ := blk_at (ptOf b k.val)
  have hp : (ptOf b k.val).val = 4 * b.val + k.val := by show 4 * b.val + min k.val 3 = _; omega
  rw [hp] at h0 h2
  show V1 m c main_arg0 ((win0_1.rect (ptOf b k.val)).emb _) = argQ m c _
  rw [V1_of m c main_arg0 (by decide)]
  refine congrArg (argQ m c) (funext fun x => Fin.ext ?_)
  refine (Pipeline.Window.rect_emb_val win0_1 _ _ x rfl).trans ?_
  match x with
  | 0 => show win0_1.index _ 0 * 1 + 0 = b.val; rw [h0]; omega
  | 1 => show win0_1.index _ 1 * 128 + a.val = a.val; rw [h1]; omega
  | 2 => show win0_1.index _ 2 * 32 + p.val / 128 = (4096 * k.val + p.val) / 128; rw [h2]; omega
  | 3 => show win0_1.index _ 3 * 128 + p.val % 128 = (4096 * k.val + p.val) % 128; rw [h3]; omega

/-- The same of the second features. -/
theorem blkK_at (c : Dev nD) (b : Fin 8) (k : Fin 4) (a : Fin 128) (p : Fin 4096) :
    blkK m c (ptOf b k.val) (ix4 0 a ⟨p.val / 128, by omega⟩ ⟨p.val % 128, by omega⟩) = featAt (argK m c) b a (pix k p) := by
  obtain ⟨-, -, -, -, -, -, -, -, h0, h1, h2, h3⟩ := blk_at (ptOf b k.val)
  have hp : (ptOf b k.val).val = 4 * b.val + k.val := by show 4 * b.val + min k.val 3 = _; omega
  rw [hp] at h0 h2
  show V1 m c main_arg1 ((win0_2.rect (ptOf b k.val)).emb _) = argK m c _
  rw [V1_of m c main_arg1 (by decide)]
  refine congrArg (argK m c) (funext fun x => Fin.ext ?_)
  refine (Pipeline.Window.rect_emb_val win0_2 _ _ x rfl).trans ?_
  match x with
  | 0 => show win0_2.index _ 0 * 1 + 0 = b.val; rw [h0]; omega
  | 1 => show win0_2.index _ 1 * 128 + a.val = a.val; rw [h1]; omega
  | 2 => show win0_2.index _ 2 * 32 + p.val / 128 = (4096 * k.val + p.val) / 128; rw [h2]; omega
  | 3 => show win0_2.index _ 3 * 128 + p.val % 128 = (4096 * k.val + p.val) % 128; rw [h3]; omega

/-- A mask block's entry is the bit there, widened. -/
theorem blkM_at (c : Dev nD) (b : Fin 8) (k : Fin 4) (a : Fin 30) (p : Fin 4096) :
    blkM m c (ptOf b k.val) (ix4 0 a ⟨p.val / 128, by omega⟩ ⟨p.val % 128, by omega⟩)
      = (argM m c (ix4 b a ⟨(pix k p).val / 128, by omega⟩ ⟨(pix k p).val % 128, by omega⟩)).setWidth 32 := by
  obtain ⟨h0, h1, h2, h3, -⟩ := blk_at (ptOf b k.val)
  have hp : (ptOf b k.val).val = 4 * b.val + k.val := by show 4 * b.val + min k.val 3 = _; omega
  rw [hp] at h0 h2
  show V1 m c main_v0 ((win0_0.rect (ptOf b k.val)).emb _) = _
  rw [V1_v0]
  refine congrArg (fun i => (argM m c i).setWidth 32) (funext fun x => Fin.ext ?_)
  refine (Pipeline.Window.rect_emb_val win0_0 _ _ x rfl).trans ?_
  match x with
  | 0 => show win0_0.index _ 0 * 1 + 0 = b.val; rw [h0]; omega
  | 1 => show win0_0.index _ 1 * 30 + a.val = a.val; rw [h1]; omega
  | 2 => show win0_0.index _ 2 * 32 + p.val / 128 = (4096 * k.val + p.val) / 128; rw [h2]; omega
  | 3 => show win0_0.index _ 3 * 128 + p.val % 128 = (4096 * k.val + p.val) % 128; rw [h3]; omega

/-- A widened bit that is not zero, widened again and read as a number, is the bit's number. -/
theorem number_of_bit (x : BitVec 1) :
    FloatOps.sitofp (F := Ideal) FTy.f32 (BitVec.setWidth 32 (IntOp.cmpi CmpIPredicate.ne (x.setWidth 32) 0#32)) = bit x := by
  rcases BitVec.eq_zero_or_eq_one x with rfl | rfl
  · show ((((0#32 : BitVec 32).toInt : ℝ)) : EReal) = (((0#1 : BitVec 1).toNat : ℝ) : EReal)
    norm_num
  · show ((((1#32 : BitVec 32).toInt : ℝ)) : EReal) = (((1#1 : BitVec 1).toNat : ℝ) : EReal)
    norm_num

/-- The masks as numbers, at place `p` of the chunk. -/
theorem pay1_at (c : Dev nD) (b : Fin 8) (k : Fin 4) (a : Fin 30) (p : Fin 4096) :
    k0_pay1 (blkM m c (ptOf b k.val)) (ix2 a p) = maskAt (argM m c) b a (pix k p) := by
  pointwise [k0_pay1]
  rw [blkM_at, number_of_bit]
  rfl

/-- One chunk's part of a sum of the first features, -/
def partQ (c : Dev nD) (b : Fin 8) (a : Fin 30) (e : Fin 128) (k : Fin 4) : EReal :=
  ∑ p : Fin 4096, maskAt (argM m c) b a (pix k p) * featAt (argQ m c) b e (pix k p)
/-- of the second -/
def partK (c : Dev nD) (b : Fin 8) (a : Fin 30) (e : Fin 128) (k : Fin 4) : EReal :=
  ∑ p : Fin 4096, maskAt (argM m c) b a (pix k p) * featAt (argK m c) b e (pix k p)
/-- and of a count. -/
def partC (c : Dev nD) (b : Fin 8) (a : Fin 30) (k : Fin 4) : EReal := ∑ p : Fin 4096, maskAt (argM m c) b a (pix k p)

/-- The product of a chunk's masks and features: the first features' channels, -/
theorem pay2_low (c : Dev nD) (b : Fin 8) (k : Fin 4) (a : Fin 30) (e : Fin 128) :
    k0_pay2 (blkM m c (ptOf b k.val)) (blkQ m c (ptOf b k.val)) (blkK m c (ptOf b k.val)) (ix2 a ⟨e.val, by omega⟩) = partQ m c b a e k := by
  pointwise [k0_pay2]
  refine Finset.sum_congr rfl fun p _ => ?_
  rw [pay1_at, blkQ_at]
/-- then the second's. -/
theorem pay2_high (c : Dev nD) (b : Fin 8) (k : Fin 4) (a : Fin 30) (e : Fin 128) :
    k0_pay2 (blkM m c (ptOf b k.val)) (blkQ m c (ptOf b k.val)) (blkK m c (ptOf b k.val)) (ix2 a ⟨128 + e.val, by omega⟩) = partK m c b a e k := by
  pointwise [k0_pay2]
  refine Finset.sum_congr rfl fun p _ => ?_
  rw [pay1_at, blkK_at]
/-- The chunk's counts. -/
theorem pay3_at (c : Dev nD) (b : Fin 8) (k : Fin 4) (a : Fin 30) : k0_pay3 (blkM m c (ptOf b k.val)) (ix1 a) = partC m c b a k := by
  pointwise [k0_pay3]
  exact Finset.sum_congr rfl fun p _ => pay1_at m c b k a p

/-- An image's first row of sums is its first chunk's product, -/
theorem accS_zero (c : Dev nD) (b : Fin 8) (a : Fin 30) (e : Fin 256) : accS m c b 0 (ix3 0 a e)
    = k0_pay2 (blkM m c (ptOf b 0)) (blkQ m c (ptOf b 0)) (blkK m c (ptOf b 0)) (ix2 a e) := by
  show k0_pay4 _ _ _ _ = _
  pointwise [k0_pay4]
/-- and each later row adds its chunk's. -/
theorem accS_succ (c : Dev nD) (b : Fin 8) (k : ℕ) (a : Fin 30) (e : Fin 256) : accS m c b (k + 1) (ix3 0 a e)
    = accS m c b k (ix3 0 a e) + k0_pay2 (blkM m c (ptOf b (k + 1))) (blkQ m c (ptOf b (k + 1))) (blkK m c (ptOf b (k + 1))) (ix2 a e) := by
  show k0_pay6 _ _ _ _ _ = _
  pointwise [k0_pay6]
/-- The counts likewise: the first row -/
theorem accC_zero (c : Dev nD) (b : Fin 8) (a : Fin 30) : accC m c b 0 (ix2 0 a) = k0_pay3 (blkM m c (ptOf b 0)) (ix1 a) := by
  show k0_pay5 _ _ = _
  pointwise [k0_pay5]
/-- and the later ones. -/
theorem accC_succ (c : Dev nD) (b : Fin 8) (k : ℕ) (a : Fin 30) : accC m c b (k + 1) (ix2 0 a)
    = accC m c b k (ix2 0 a) + k0_pay3 (blkM m c (ptOf b (k + 1))) (ix1 a) := by
  show k0_pay7 _ _ _ = _
  pointwise [k0_pay7]

/-- The sums' entry is its image's last row's. -/
theorem totS_at (c : Dev nD) (b : Fin 8) (a : Fin 30) (e : Fin 256) : totS m c (ix3 b a e) = accS m c b 3 (ix3 0 a e) :=
  congrArg (accS m c b 3) (ix3_eq_valueIdx 0 a e).symm

/-- The sums' first 128 channels are the first features' masked sums, -/
theorem totS_low (c : Dev nD) (b : Fin 8) (a : Fin 30) (e : Fin 128) :
    totS m c (ix3 b a ⟨e.val, by omega⟩) = total (argQ m c) (argM m c) b a e := by
  rw [totS_at, accS_succ, accS_succ, accS_succ, accS_zero, Loss.total, sum_pix]
  exact congrArg₂ (· + ·) (congrArg₂ (· + ·) (congrArg₂ (· + ·) (pay2_low m c b 0 a e) (pay2_low m c b 1 a e)) (pay2_low m c b 2 a e)) (pay2_low m c b 3 a e)
/-- the last 128 the second's, -/
theorem totS_high (c : Dev nD) (b : Fin 8) (a : Fin 30) (e : Fin 128) :
    totS m c (ix3 b a ⟨128 + e.val, by omega⟩) = total (argK m c) (argM m c) b a e := by
  rw [totS_at, accS_succ, accS_succ, accS_succ, accS_zero, Loss.total, sum_pix]
  exact congrArg₂ (· + ·) (congrArg₂ (· + ·) (congrArg₂ (· + ·) (pay2_high m c b 0 a e) (pay2_high m c b 1 a e)) (pay2_high m c b 2 a e)) (pay2_high m c b 3 a e)
/-- and the counts are the masks' counts. -/
theorem totC_at (c : Dev nD) (b : Fin 8) (a : Fin 30) : totC m c (ix2 b a) = Loss.count (argM m c) b a := by
  refine (congrArg (accC m c b 3) (ix2_eq_valueIdx 0 a).symm).trans ?_
  rw [accC_succ, accC_succ, accC_succ, accC_zero, Loss.count, sum_pix]
  exact congrArg₂ (· + ·) (congrArg₂ (· + ·) (congrArg₂ (· + ·) (pay3_at m c b 0 a) (pay3_at m c b 1 a)) (pay3_at m c b 2 a)) (pay3_at m c b 3 a)

end Cert.KernelIdeal.Run

end
-- ==== Proof.Loss.lean ====
/-
  The loss region's result over the extended reals, from the sums and counts it is given.
-/
module

public import proofs.«01_k».proof.Proof.Sums
public import proofs.«01_k».proof.Proof.IRun

@[expose] public section

set_option maxRecDepth 16384

noncomputable section

namespace Cert.KernelIdeal.Run

open Cert.KernelIdeal Cert.KernelIdeal.Gen Cert.Loss
open Idealize.ShloMosaic Idealize.ShloMosaic.TcCoe
open Idealize.SL Idealize.SL.Sem

variable (s : Vec Ideal S8x30x256 .f32) (n : Vec Ideal S8x30 .f32)

/-- The means: each sum over its count, the count held above one. -/
theorem pay2_entry (i : Fin 240) (e : Fin 256) : k1_pay2 s n (ix2 i e)
    = Ideal.div (s (ix3 ⟨i.val % 8, by omega⟩ ⟨i.val / 8, by omega⟩ e)) (max (n (ix2 ⟨i.val % 8, by omega⟩ ⟨i.val / 8, by omega⟩)) 1) := by
  pointwise [k1_pay2]

/-- The first means, from the first 128 columns, -/
def meanQ (i : Fin 240) (e : Fin 128) : EReal := k1_pay2 s n (ix2 i ⟨e.val, by omega⟩)
/-- and the second, from the last 128. -/
def meanK (i : Fin 240) (e : Fin 128) : EReal := k1_pay2 s n (ix2 i ⟨128 + e.val, by omega⟩)

theorem pay3_entry (i : Fin 240) (e : Fin 128) : k1_pay3 s n (ix2 i e) = meanK s n i e := by
  pointwise [k1_pay3]
  rfl
/-- Which rows count. -/
theorem pay4_entry (i : Fin 240) : k1_pay4 s n (ix2 i 0) = BitVec.ofBool (decide (meanK s n i 0 ≠ 0)) := by
  pointwise [k1_pay4]
  rw [pay3_entry]
/-- The table of similarities. -/
theorem pay5_entry (i j : Fin 240) : k1_pay5 s n (ix2 i j) = sim (meanQ s n) (meanK s n) i j := by
  pointwise [k1_pay5]
  simp only [pay3_entry]
  rfl
/-- The logarithm of the sum of a row's exponentials. -/
theorem pay6_entry (i : Fin 240) : k1_pay6 s n (ix2 i 0) = lse (sim (meanQ s n) (meanK s n)) i := by
  pointwise [k1_pay6]
  simp only [pay5_entry]
  rw [neg_inf]
  rfl

/-- A row's entry on the diagonal, as the sum over the row of the entries whose column number is the row's. -/
theorem diag_sum (f : Fin 240 → EReal) (i : Fin 240) :
    ∑ j : Fin 240, Scalar.select (IntOp.cmpi CmpIPredicate.eq (BitVec.ofNat 32 i.val) (BitVec.ofNat 32 j.val)) (f j) 0 = f i := by
  rw [Finset.sum_eq_single i]
  · rw [show IntOp.cmpi CmpIPredicate.eq (BitVec.ofNat 32 i.val) (BitVec.ofNat 32 i.val) = 1#1 by simp [IntOp.cmpi]]
    rfl
  · intro j _ hj
    have : BitVec.ofNat 32 i.val ≠ BitVec.ofNat 32 j.val := fun h => hj (Fin.ext (by
      have := congrArg BitVec.toNat h
      simp only [BitVec.toNat_ofNat] at this
      omega))
    rw [show IntOp.cmpi CmpIPredicate.eq (BitVec.ofNat 32 i.val) (BitVec.ofNat 32 j.val) = 0#1 by
      unfold IntOp.cmpi
      rw [show (BitVec.ofNat 32 i.val == BitVec.ofNat 32 j.val) = false from beq_eq_false_iff_ne.mpr this]
      rfl]
    rfl
  · intro h; exact absurd (Finset.mem_univ _) h

/-- A choice between one and zero by whether a row counts. -/
theorem select_valid (K : Fin 240 → Fin 128 → EReal) (i : Fin 240) :
    Scalar.select (BitVec.ofBool (decide (K i 0 ≠ 0))) (1 : EReal) 0 = valid K i := by
  unfold valid
  by_cases h : K i 0 = 0
  · rw [if_pos h, show decide (K i 0 ≠ 0) = false by simp [h]]; rfl
  · rw [if_neg h, show decide (K i 0 ≠ 0) = true by simp [h]]; rfl
theorem select_mul_valid (K : Fin 240 → Fin 128 → EReal) (i : Fin 240) (x : EReal) :
    Scalar.select (BitVec.ofBool (decide (K i 0 ≠ 0))) x 0 = x * valid K i := by
  unfold valid
  by_cases h : K i 0 = 0
  · rw [if_pos h, show decide (K i 0 ≠ 0) = false by simp [h], mul_zero]; rfl
  · rw [if_neg h, show decide (K i 0 ≠ 0) = true by simp [h], mul_one]; rfl

/-- The loss region's one entry is the mean cross entropy of the table. -/
theorem lossOf_entry : lossOf (F := Ideal) s n (ix2 0 0) = crossEntropy (sim (meanQ s n) (meanK s n)) (valid (meanK s n)) := by
  unfold lossOf
  pointwise [k1_pay1]
  simp only [pay4_entry, pay5_entry, pay6_entry, diag_sum, select_valid, select_mul_valid]
  simp
  rfl

variable (m : (ℓ : Loc nD τ sig) → Buf (Elt Ideal) ℓ)

/-- The means the loss region takes are the means of the features under the masks: the first -/
theorem meanQ_tot (c : Dev nD) : meanQ (totS m c) (totC m c) = mean (argQ m c) (argM m c) := by
  funext i e
  rw [meanQ, pay2_entry, totS_low, totC_at]
  rfl
/-- and the second. -/
theorem meanK_tot (c : Dev nD) : meanK (totS m c) (totC m c) = mean (argK m c) (argM m c) := by
  funext i e
  rw [meanK, pay2_entry, totS_high, totC_at]
  rfl

/-- The kernel's result is the loss of its arguments. -/
theorem totL_entry (c : Dev nD) : totL m c (ix2 0 0) = loss (argQ m c) (argK m c) (argM m c) := by
  rw [totL, lossOf_entry, meanQ_tot, meanK_tot]
  rfl

/-- What the program returns: the loss region's one entry as a scalar. -/
theorem result_entry (c : Dev nD) : (result m c : FVec Ideal S_ .f32) ix0 = loss (argQ m c) (argK m c) (argM m c) := by
  rw [← totL_entry]
  have h : V4 m (outs m) c main_v3 = shapeCast S_ (totL m c) shapeCasts_S1x1_S_ := by
    show StableHlo.after hostOps2 (V3 m (outs m) c) main_v3 = _
    rw [hostOps2]
    after_results
    rfl
  show V4 m (outs m) c main_v3 ix0 = _
  rw [h]
  pointwise

end Cert.KernelIdeal.Run

end
-- ==== Proof.Ref.lean ====
/-
  The reference's result over the extended reals.
-/
module

public import proofs.«01_k».proof.Proof.Means
public import proofs.«01_k».proof.Proof.Gen.ReferenceIdeal.Run
public import Idealize.ShloMosaic.Lib.Tactic.CleanTypes

@[expose] public section

set_option maxRecDepth 16384

noncomputable section

namespace Cert.ReferenceIdeal.Value

open Cert.ReferenceIdeal Cert.ReferenceIdeal.Gen Cert.Loss
open Idealize.ShloMosaic Idealize.ShloMosaic.TcCoe
open Idealize.SL.Sem

/-! ## The reference, value by value -/

/-- The masks as numbers, along the pixels. -/
def rMask (M : Mask) : FVec Ideal S8x30x16384 .f32 := uitofp .f32 (shapeCast S8x30x16384 (M : Vec Ideal S8x30x128x128 .i1) shapeCasts_S8x30x128x128_S8x30x16384)
/-- The means of a stack of features. -/
def rMean (X : Feat) (M : Mask) : FVec Ideal S240x128 .f32 :=
  shapeCast S240x128 (Host.divf (transpose S30x8x128 [2, 0, 1] (Host.dotGeneral (F := Ideal) (φ₁ := .f32) (φ₂ := .f32) dot_S8x128x16384_S8x30x16384_S8x128x30_2_2_1_1_0_0 none
      (shapeCast (α := EReal) S8x128x16384 X shapeCasts_S8x128x128x128_S8x128x16384) (rMask M)) transposes_S8x128x30_S30x8x128_2_0_1)
    (broadcastInDim S30x8x128 ![0, 1, 2] bcast_S30x8x1_S30x8x128_0_1_2 (broadcastInDim S30x8x1 ![0, 1] bcast_S30x8_S30x8x1_0_1
      (maximumf (transpose S30x8 [1, 0] (Host.reduceAdd (rMask M) (constant S_ .f32 0x00000000#32) reducesTo_S8x30x16384_S8x30_d2 h_S_) transposes_S8x30_S30x8_1_0)
        (broadcastInDim S30x8 ![] bcast_S_S30x8 (constant S_ .f32 0x3F800000#32)))))) shapeCasts_S30x8x128_S240x128
/-- Its rows at unit length. -/
def rUnit (A : FVec Ideal S240x128 .f32) : FVec Ideal S240x128 .f32 :=
  Host.divf A (broadcastInDim S240x128 ![0, 1] bcast_S240x1_S240x128_0_1 (maximumf
    (Host.sqrt (broadcastInDim S240x1 ![0] bcast_S240_S240x1_0 (Host.reduceAdd (mulf A A) (constant S_ .f32 0x00000000#32) reducesTo_S240x128_S240_d1 h_S_)))
    (broadcastInDim S240x1 ![] bcast_S_S240x1 (constant S_ .f32 0x2B8CBCCC#32))))
/-- The table of similarities. -/
def rSim (A B : FVec Ideal S240x128 .f32) : FVec Ideal S240x240 .f32 :=
  Host.divf (Host.dotGeneral dot_S240x128_S128x240_S240x240_1_0_0_1_n_n none (rUnit B) (transpose S128x240 [1, 0] (rUnit A) transposes_S240x128_S128x240_1_0))
    (broadcastInDim S240x240 ![] bcast_S_S240x240 (constant S_ .f32 0x3D8F5C29#32))

/-- The row numbers, a negative one brought into range. -/
def rRow : IVec S240x1 32 := broadcastInDim S240x1 ![0] bcast_S240_S240x1_0
  (select (cmpi .slt (iotaInDim S240 32 0) (broadcastInDim S240 ![] bcast_S_S240 (constantI S_ 32 0#32)))
    (addi (iotaInDim S240 32 0) (broadcastInDim S240 ![] bcast_S_S240 (constantI S_ 32 240#32))) (iotaInDim S240 32 0))
/-- The pairs of a row number with itself. -/
def rPairs : IVec S240x2 32 := concatenate S240x2 1 [⟨S240x1, rRow⟩, ⟨S240x1, rRow⟩] concatenates_S240x1_S240x1_S240x2_d1
/-- Which rows count. -/
def rValid (B : FVec Ideal S240x128 .f32) : FVec Ideal S240 .f32 :=
  uitofp .f32 (cmpf .une (shapeCast S240 (extractStridedSlice S240x1 ![0, 0] B slices_S240x128_S240x1_0_0) shapeCasts_S240x1_S240)
    (broadcastInDim S240 ![] bcast_S_S240 (constant (F := Ideal) S_ .f32 0x00000000#32)))
/-- The loss of a table and of which rows count. -/
def rLoss (S : FVec Ideal S240x240 .f32) (v : FVec Ideal S240 .f32) : FVec Ideal S_ .f32 :=
  Host.divf (Host.reduceAdd (mulf (subf (Host.log (Host.reduceAdd (Host.exp S) (constant S_ .f32 0x00000000#32) reducesTo_S240x240_S240_d1 h_S_))
      (Host.gather gather_S240x240_S240x2_S240_n_01_n_n_01_1_11 S rPairs)) v) (constant S_ .f32 0x00000000#32) reducesTo_S240_S_d0 h_S_)
    (maximumf (Host.reduceAdd v (constant S_ .f32 0x00000000#32) reducesTo_S240_S_d0 h_S_) (constant S_ .f32 0x3F800000#32))

/-- The reference's result is its last value. -/
theorem res_eq (m : (ℓ : Loc nD τ sig) → Buf (Elt Ideal) ℓ) (c : Dev nD) :
    res_main_v64 m c = rLoss (rSim (rMean (m ((c.tc : Thread nD τ).loc main_arg0)) (m ((c.tc : Thread nD τ).loc main_arg2)))
        (rMean (m ((c.tc : Thread nD τ).loc main_arg1)) (m ((c.tc : Thread nD τ).loc main_arg2))))
      (rValid (rMean (m ((c.tc : Thread nD τ).loc main_arg1)) (m ((c.tc : Thread nD τ).loc main_arg2)))) := rfl

/-! ## Each value at an index -/

theorem rMean_entry (X : Feat) (M : Mask) (i : Fin 240) (e : Fin 128) : rMean X M (ix2 i e) = mean X M i e := by
  pointwise [rMean, rMask]
  unfold mean total
  refine congrArg₂ Ideal.div (Finset.sum_congr rfl fun p _ => ?_) rfl
  exact mul_comm _ _

theorem rSim_entry (A B : FVec Ideal S240x128 .f32) (i j : Fin 240) :
    rSim A B (ix2 i j) = sim (fun i e => A (ix2 i e)) (fun i e => B (ix2 i e)) i j := by
  pointwise [rSim, rUnit]
  rfl

/-- No row number is negative. -/
theorem rRow_entry (i : Fin 240) : rRow (ix2 i 0) = BitVec.ofNat 32 i.val := by
  pointwise [rRow]
  rw [show IntOp.cmpi CmpIPredicate.slt (BitVec.ofNat 32 i.val) 0#32 = 0#1 by revert i; decide +kernel]
  rfl

theorem rPairs_entry (i : Fin 240) (k : Fin 2) : rPairs (ix2 i k) = BitVec.ofNat 32 i.val := by
  pointwise [rPairs]
  match k with
  | 0 => exact rRow_entry i
  | 1 => exact rRow_entry i

theorem rValid_entry (B : FVec Ideal S240x128 .f32) (i : Fin 240) : rValid B (ix1 i) = valid (fun i e => B (ix2 i e)) i := by
  pointwise [rValid]
  show bit _ = _
  unfold valid bit
  by_cases h : B (ix2 i 0) = 0
  · rw [if_pos h, show decide (B (ix2 i 0) ≠ 0) = false by simp [h]]
    show (((0#1 : BitVec 1).toNat : ℝ) : EReal) = 0
    norm_num
  · rw [if_neg h, show decide (B (ix2 i 0) ≠ 0) = true by simp [h]]
    show (((1#1 : BitVec 1).toNat : ℝ) : EReal) = 1
    norm_num

/-- The entries gathered at the pairs are the table's diagonal. -/
theorem diag_entry (S : FVec Ideal S240x240 .f32) (i : Fin 240) :
    Host.gather gather_S240x240_S240x2_S240_n_01_n_n_01_1_11 S rPairs (ix1 i) = S (ix2 i i) := by
  have hsi : ∀ k : Fin 2, gather_S240x240_S240x2_S240_n_01_n_n_01_1_11.siIdx (ix1 i) k = ix2 i k := fun k => funext fun b => Fin.ext (by
    match b with
    | 0 =>
      unfold GatherDims.siIdx
      rw [dif_neg (by decide)]
      have e : ∀ X : Fin 1, ((ix1 i : S240.Idx) X).val = i.val := fun X => by rw [show X = 0 from Subsingleton.elim _ _]; rfl
      exact e _
    | 1 => rfl)
  have hword : ∀ i : Fin 240, (BitVec.ofNat 32 i.val).toInt.toNat = i.val := by decide +kernel
  have hst : ∀ a : Fin 2, gather_S240x240_S240x2_S240_n_01_n_n_01_1_11.start (ix1 i) rPairs a = i.val := fun a => by
    have hk : ∀ k, rPairs (gather_S240x240_S240x2_S240_n_01_n_n_01_1_11.siIdx (ix1 i) k) = BitVec.ofNat 32 i.val := fun k =>
      (congrArg rPairs (hsi k)).trans (rPairs_entry i k)
    unfold GatherDims.start
    rw [dif_pos (by revert a; decide)]
    refine (congrArg (fun w : BitVec 32 => min w.toInt.toNat _) (hk _)).trans ?_
    show min (BitVec.ofNat 32 i.val).toInt.toNat _ = _
    rw [hword]
    match a with
    | 0 => exact Nat.min_eq_left (Nat.le_of_lt_succ i.isLt)
    | 1 => exact Nat.min_eq_left (Nat.le_of_lt_succ i.isLt)
  refine congrArg S (funext fun a => Fin.ext ?_)
  show GatherDims.start _ _ _ a + GatherDims.batchCoord _ _ a + GatherDims.offCoord _ _ a = _
  rw [hst a, GatherDims.batchCoord_eq_zero _ _ _ (by revert a; decide), GatherDims.offCoord_eq_zero _ _ _ (by revert a; decide)]
  match a with
  | 0 => rfl
  | 1 => rfl

/-- The loss of a table of real numbers is the mean cross entropy of its rows. -/
theorem rLoss_entry (S : FVec Ideal S240x240 .f32) (v : FVec Ideal S240 .f32) (T : Fin 240 → Fin 240 → EReal) (w : Fin 240 → EReal)
    (hS : ∀ i j, S (ix2 i j) = T i j) (hv : ∀ i, v (ix1 i) = w i) (hT : ∃ f : Fin 240 → Fin 240 → ℝ, ∀ i j, T i j = (f i j : EReal)) :
    rLoss S v ix0 = crossEntropy T w := by
  obtain ⟨f, hf⟩ := hT
  pointwise [rLoss]
  simp only [diag_entry, hS, hv, ← lse_eq T f hf]
  rfl

/-- The reference's result is the loss of its arguments. -/
theorem res_entry (m : (ℓ : Loc nD τ sig) → Buf (Elt Ideal) ℓ) (c : Dev nD) :
    (res_main_v64 m c : FVec Ideal S_ .f32) ix0 = loss (m ((c.tc : Thread nD τ).loc main_arg0)) (m ((c.tc : Thread nD τ).loc main_arg1)) (m ((c.tc : Thread nD τ).loc main_arg2)) := by
  rw [res_eq]
  refine rLoss_entry _ _ _ _ (fun i j => ?_) (fun i => ?_) (sim_real _ _)
  · rw [rSim_entry]; simp only [rMean_entry]
  · rw [rValid_entry]; simp only [rMean_entry]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KRun
public import proofs.«01_k».proof.Proof.IRun
public import proofs.«01_k».proof.Proof.Loss
public import proofs.«01_k».proof.Proof.Ref
public import Idealize.ShloMosaic.Adequacy
public import Idealize.ShloMosaic.Init

@[expose] public section

noncomputable section

namespace Cert.Proof

open Idealize.ShloMosaic Idealize.SL.Sem

/-- The kernel at its own words runs, keeps its arguments and leaves every counter at zero. -/
theorem frame_kernel : Cert.quiescent_Kernel (hKernel := Cert.Kernel.Gen.facts) := fun m g _ =>
  (θ_run _ _ _).mono (fun _ h => ⟨fun c => (h.1 c).2, h.2⟩) (Cert.Kernel.Run.run_main m g)

/-- So does the kernel over the extended reals, -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Run.run_main m g)

/-- and the reference, which has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From equal arguments the two programs return the same extended real: the loss of those arguments. -/
theorem same_loss (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_main_v64 m' c : (⟨0, ![]⟩ : Shape).Idx → EReal) = Cert.KernelIdeal.Run.result m c := by
  funext j
  rw [show j = ix0 from funext fun a => a.elim0]
  refine (Cert.ReferenceIdeal.Value.res_entry m' c).trans (Eq.trans ?_ (Cert.KernelIdeal.Run.result_entry m c).symm)
  exact congr (congrArg₂ Cert.Loss.loss h0 h1) h2

/-- The kernel and the reference compute the same function over the extended reals. -/
theorem same_function : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Run.result m c,
    (θ_run _ _ _).mono (fun _ h => h.1) (Cert.KernelIdeal.Run.run_main m g),
    (θ_run _ _ _).mono (fun _ h c => ⟨(h c).1.trans (same_loss m m' c (hm c).1 (hm c).2.1 (hm c).2.2), (h c).2⟩)
      (Cert.ReferenceIdeal.Value.run m' g')⟩

/-- Everything claimed. -/
theorem claim : Cert.Claim := ⟨Cert.Kernel.Gen.facts, Cert.KernelIdeal.Gen.facts, Cert.ReferenceIdeal.Gen.facts,
  frame_kernel, frame_ideal, frame_reference, trivial, same_function⟩

end Cert.Proof

end
